-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v72_0)) (v1 : (c : Dev Cert.Kernel6Ideal.nD) → Buf (Elt Ideal) ((c.tc : Thread Cert.Kernel6Ideal.nD Cert.Kernel6Ideal.τ).loc Cert.Kernel6Ideal.main_v72_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v72_0) = v0 c
          ∧ r.2.mem ((c.tc : Thread Cert.Kernel6Ideal.nD Cert.Kernel6Ideal.τ).loc Cert.Kernel6Ideal.main_v72_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v195) = v0 c
          ∧ r.2.mem ((c.tc : Thread Cert.Reference6Ideal.nD Cert.Reference6Ideal.τ).loc Cert.Reference6Ideal.main_v196) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S32x8x1664 : Shape := ⟨3, ![32, 8, 1664]⟩
abbrev S32x4x32x64 : Shape := ⟨4, ![32, 4, 32, 64]⟩
abbrev S16x128 : Shape := ⟨2, ![16, 128]⟩
abbrev S128 : Shape := ⟨1, ![128]⟩
abbrev S64 : Shape := ⟨1, ![64]⟩
abbrev S_ : Shape := ⟨0, ![]⟩

class Facts : Prop where
  bcast_S_S32x8x1664 : S_.BroadcastsInDim S32x8x1664 (![] : Fin 0 → Fin S32x8x1664.rank)
  bcast_S_S32x4x32x64 : S_.BroadcastsInDim S32x4x32x64 (![] : Fin 0 → Fin S32x4x32x64.rank)
  bcast_S_S16x128 : S_.BroadcastsInDim S16x128 (![] : Fin 0 → Fin S16x128.rank)
  bcast_S_S128 : S_.BroadcastsInDim S128 (![] : Fin 0 → Fin S128.rank)

variable [Facts]

def fn {F : FTy → Type} [FloatOps F] (main_arg0 : FVec F S32x8x1664 .f32) (main_arg1 : FVec F S32x4x32x64 .f32) (main_arg2 : FVec F S32x4x32x64 .f32) (main_arg3 : FVec F S16x128 .f32) (main_arg4 : FVec F S128 .f32) (main_arg5 : FVec F S64 .f32) (main_arg6 : FVec F S64 .f32) : IVec S32x8x1664 1 × IVec S32x4x32x64 1 × IVec S32x4x32x64 1 × IVec S16x128 1 × IVec S128 1 :=
  let main_v0 : FVec F S32x8x1664 .f32 := Host.absf main_arg0
  let main_cst : FVec F S_ .f32 := constant S_ .f32 0x7F800000#32
  let main_v1 : FVec F S32x8x1664 .f32 := broadcastInDim S32x8x1664 ![] bcast_S_S32x8x1664 main_cst
  let main_v2 : IVec S32x8x1664 1 := cmpf .olt main_v0 main_v1
  let main_v3 : FVec F S32x4x32x64 .f32 := Host.absf main_arg1
  let main_cst_0 : FVec F S_ .f32 := constant S_ .f32 0x7F800000#32
  let main_v4 : FVec F S32x4x32x64 .f32 := broadcastInDim S32x4x32x64 ![] bcast_S_S32x4x32x64 main_cst_0
  let main_v5 : IVec S32x4x32x64 1 := cmpf .olt main_v3 main_v4
  let main_v6 : FVec F S32x4x32x64 .f32 := Host.absf main_arg2
  let main_cst_1 : FVec F S_ .f32 := constant S_ .f32 0x7F800000#32
  let main_v7 : FVec F S32x4x32x64 .f32 := broadcastInDim S32x4x32x64 ![] bcast_S_S32x4x32x64 main_cst_1
  let main_v8 : IVec S32x4x32x64 1 := cmpf .olt main_v6 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  (main_v2, main_v5, main_v8, main_v11, main_v14)
-- ==== Kernel.lean ====
abbrev S2x8192x1664 : Shape := ⟨3, ![2, 8192, 1664]⟩
abbrev S16x128 : Shape := ⟨2, ![16, 128]⟩
abbrev S128 : Shape := ⟨1, ![128]⟩
abbrev S64 : Shape := ⟨1, ![64]⟩
abbrev S8192 : Shape := ⟨1, ![8192]⟩
abbrev S_ : Shape := ⟨0, ![]⟩
abbrev S15 : Shape := ⟨1, ![15]⟩
abbrev S1 : Shape := ⟨1, ![1]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S1x8192x8x16 : Shape := ⟨4, ![1, 8192, 8, 16]⟩
abbrev S8192x128 : Shape := ⟨2, ![8192, 128]⟩
abbrev S4 : Shape := ⟨1, ![4]⟩
abbrev S4x32 : Shape := ⟨2, ![4, 32]⟩
abbrev S1x128 : Shape := ⟨2, ![1, 128]⟩
abbrev S2x2x128x256 : Shape := ⟨4, ![2, 2, 128, 256]⟩
abbrev S112x128 : Shape := ⟨2, ![112, 128]⟩
abbrev S128x128 : Shape := ⟨2, ![128, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x8192x512 : Shape := ⟨3, ![2, 8192, 512]⟩
abbrev S2x256x1664 : Shape := ⟨3, ![2, 256, 1664]⟩
abbrev S256x128 : Shape := ⟨2, ![256, 128]⟩
abbrev S2x256x512 : Shape := ⟨3, ![2, 256, 512]⟩
abbrev S256x256 : Shape := ⟨2, ![256, 256]⟩
abbrev S128x256 : Shape := ⟨2, ![128, 256]⟩
abbrev S1x256x128 : Shape := ⟨3, ![1, 256, 128]⟩
abbrev S1x256x256 : Shape := ⟨3, ![1, 256, 256]⟩
abbrev S256x1 : Shape := ⟨2, ![256, 1]⟩
abbrev S1024x128 : Shape := ⟨2, ![1024, 128]⟩
abbrev S1024x256 : Shape := ⟨2, ![1024, 256]⟩
abbrev S2048x256 : Shape := ⟨2, ![2048, 256]⟩
abbrev S1x1x128x256 : Shape := ⟨4, ![1, 1, 128, 256]⟩
abbrev S16x256 : Shape := ⟨2, ![16, 256]⟩
abbrev S128x1 : Shape := ⟨2, ![128, 1]⟩

abbrev nBuf : Space → Nat
  | .hbm => 80
  | .vmem => 16
  | .smem => 0
  | _ => 0

abbrev bufTy : (tb : Table) → Fin (tcTables nBuf tb) → BufTy
  | .hbm, ⟨0, _⟩ => ⟨S2x8192x1664, .f32⟩
  | .hbm, ⟨1, _⟩ => ⟨S16x128, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S15, .f32⟩
  | .hbm, ⟨14, _⟩ => ⟨S_, .f32⟩
  | .hbm, ⟨15, _⟩ => ⟨S15, .f32⟩
  | .hbm, ⟨16, _⟩ => ⟨S15, .f32⟩
  | .hbm, ⟨17, _⟩ => ⟨S1, .f32⟩
  | .hbm, ⟨18, _⟩ => ⟨S_, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S1, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S8192, .f32⟩
  | .hbm, ⟨36, _⟩ => ⟨S8192x1, .f32⟩
  | .hbm, ⟨37, _⟩ => ⟨S1x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S1x8192x1x16, .f32⟩
  | .hbm, ⟨43, _⟩ => ⟨S1x8192x8x16, .f32⟩
  | .hbm, ⟨44, _⟩ => ⟨S8192x128, .f32⟩
  | .hbm, ⟨45, _⟩ => ⟨S8192x16, .f32⟩
  | .hbm, ⟨46, _⟩ => ⟨S1x8192x1x16, .f32⟩
  | .hbm, ⟨47, _⟩ => ⟨S1x8192x8x16, .f32⟩
  | .hbm, ⟨48, _⟩ => ⟨S8192x128, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4x32, .f32⟩
  | .hbm, ⟨61, _⟩ => ⟨S128, .f32⟩
  | .hbm, ⟨62, _⟩ => ⟨S1x128, .f32⟩
  | .hbm, ⟨63, _⟩ => ⟨S_, .f32⟩
  | .hbm, ⟨64, _⟩ => ⟨S2x2x128x256, .f32⟩
  | .hbm, ⟨65, _⟩ => ⟨S_, .f32⟩
  | .hbm, ⟨66, _⟩ => ⟨S112x128, .f32⟩
  | .hbm, ⟨67, _⟩ => ⟨S128x128, .f32⟩
  | .hbm, ⟨68, _⟩ => ⟨S128x128, .bf16⟩
  | .hbm, ⟨69, _⟩ => ⟨S1x128, .f32⟩
  | .hbm, ⟨70, _⟩ => ⟨S1x64, .f32⟩
  | .hbm, ⟨71, _⟩ => ⟨S4x64, .f32⟩
  | .hbm, ⟨72, _⟩ => ⟨S256, .f32⟩
  | .hbm, ⟨73, _⟩ => ⟨S1x256, .f32⟩
  | .hbm, ⟨74, _⟩ => ⟨S1x64, .f32⟩
  | .hbm, ⟨75, _⟩ => ⟨S4x64, .f32⟩
  | .hbm, ⟨76, _⟩ => ⟨S256, .f32⟩
  | .hbm, ⟨77, _⟩ => ⟨S1x256, .f32⟩
  | .hbm, ⟨78, _⟩ => ⟨S2x8192x512, .bf16⟩
  | .hbm, ⟨79, _⟩ => ⟨S2x2x128x256, .f32⟩
  | .local _ .vmem, ⟨0, _⟩ => ⟨S2x256x1664, .f32⟩
  | .local _ .vmem, ⟨1, _⟩ => ⟨S2x256x1664, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S128x128, .bf16⟩
  | .local _ .vmem, ⟨7, _⟩ => ⟨S1x128, .f32⟩
  | .local _ .vmem, ⟨8, _⟩ => ⟨S1x128, .f32⟩
  | .local _ .vmem, ⟨9, _⟩ => ⟨S1x256, .f32⟩
  | .local _ .vmem, ⟨10, _⟩ => ⟨S1x256, .f32⟩
  | .local _ .vmem, ⟨11, _⟩ => ⟨S2x2x128x256, .f32⟩
  | .local _ .vmem, ⟨12, _⟩ => ⟨S2x256x512, .bf16⟩
  | .local _ .vmem, ⟨13, _⟩ => ⟨S2x256x512, .bf16⟩
  | .local _ .vmem, ⟨14, _⟩ => ⟨S2x2x128x256, .f32⟩
  | .local _ .vmem, ⟨15, _⟩ => ⟨S2x2x128x256, .f32⟩
  | _, _ => ⟨S2x8192x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_v3 : Ref sig .tc := ⟨.hbm, 31, rfl⟩
abbrev main_cst_2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44_0 : Ref sig .tc := ⟨.hbm, 78, rfl⟩
abbrev main_v44_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v2072 : BitVec 1 := Scalar.cmpi .eq arg1 c31_i32
  let v2073 : BitVec 32 := Scalar.extui v2072
  let c0_i32_575 : BitVec 32 := 0#32
  let v2074 : BitVec 1 := Scalar.cmpi .ne v2073 c0_i32_575
  v2074

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x2x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S2x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x2x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceIdeal.lean ====
abbrev S2x8192x1664 : Shape := ⟨3, ![2, 8192, 1664]⟩
abbrev S16x128 : Shape := ⟨2, ![16, 128]⟩
abbrev S128 : Shape := ⟨1, ![128]⟩
abbrev S64 : Shape := ⟨1, ![64]⟩
abbrev S2x8192x1552 : Shape := ⟨3, ![2, 8192, 1552]⟩
abbrev S2x8192x128 : Shape := ⟨3, ![2, 8192, 128]⟩
abbrev S2x8192x256 : Shape := ⟨3, ![2, 8192, 256]⟩
abbrev S2x8192x16 : Shape := ⟨3, ![2, 8192, 16]⟩
abbrev S8192 : Shape := ⟨1, ![8192]⟩
abbrev S2x8192x4x32 : Shape := ⟨4, ![2, 8192, 4, 32]⟩
abbrev S_ : Shape := ⟨0, ![]⟩
abbrev S15 : Shape := ⟨1, ![15]⟩
abbrev S1 : Shape := ⟨1, ![1]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S2x8192x4x16 : Shape := ⟨4, ![2, 8192, 4, 16]⟩
abbrev S4 : Shape := ⟨1, ![4]⟩
abbrev S1x1x4x1 : Shape := ⟨4, ![1, 1, 4, 1]⟩
abbrev S1x1x128 : Shape := ⟨3, ![1, 1, 128]⟩
abbrev S2x8192x8x32 : Shape := ⟨4, ![2, 8192, 8, 32]⟩
abbrev S2x8192x4x64 : Shape := ⟨4, ![2, 8192, 4, 64]⟩
abbrev S2x8192x8x64 : Shape := ⟨4, ![2, 8192, 8, 64]⟩
abbrev S2x8x32x64 : Shape := ⟨4, ![2, 8, 32, 64]⟩
abbrev S2x512x16x8x32 : Shape := ⟨5, ![2, 512, 16, 8, 32]⟩
abbrev S2x512x16x8x64 : Shape := ⟨5, ![2, 512, 16, 8, 64]⟩
abbrev S2x512x1x8x32 : Shape := ⟨5, ![2, 512, 1, 8, 32]⟩
abbrev S2x512x8x16x16 : Shape := ⟨5, ![2, 512, 8, 16, 16]⟩
abbrev S16x16 : Shape := ⟨2, ![16, 16]⟩
abbrev S2x512x8x64x16 : Shape := ⟨5, ![2, 512, 8, 64, 16]⟩
abbrev S2x512x8x32x64 : Shape := ⟨5, ![2, 512, 8, 32, 64]⟩
abbrev S2x512x8x32 : Shape := ⟨4, ![2, 512, 8, 32]⟩
abbrev S512x2x8x32 : Shape := ⟨4, ![512, 2, 8, 32]⟩
abbrev S512x2x8x32x64 : Shape := ⟨5, ![512, 2, 8, 32, 64]⟩
abbrev S1x2x8x32 : Shape := ⟨4, ![1, 2, 8, 32]⟩
abbrev S2x8x32 : Shape := ⟨3, ![2, 8, 32]⟩
abbrev S1x2x8x32x64 : Shape := ⟨5, ![1, 2, 8, 32, 64]⟩
abbrev S2x8x32x1 : Shape := ⟨4, ![2, 8, 32, 1]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S2x2x4x32x64 : Shape := ⟨5, ![2, 2, 4, 32, 64]⟩
abbrev S4x4 : Shape := ⟨2, ![4, 4]⟩
abbrev S1x1x4x1x4x1 : Shape := ⟨6, ![1, 1, 4, 1, 4, 1]⟩
abbrev S2x2x4x32x1x64 : Shape := ⟨6, ![2, 2, 4, 32, 1, 64]⟩
abbrev S2x2x4x32x4x64 : Shape := ⟨6, ![2, 2, 4, 32, 4, 64]⟩
abbrev S2x8192x512 : Shape := ⟨3, ![2, 8192, 512]⟩
abbrev S2x2x128x256 : Shape := ⟨4, ![2, 2, 128, 256]⟩

abbrev nBuf : Space → Nat
  | .hbm => 328
  | .vmem => 0
  | .smem => 0
  | _ => 0

abbrev hbmTy0_0 (i : Nat) : BufTy := match i % 128 with
  | 0 => ⟨S2x8192x1664, .f32⟩
  | 1 => ⟨S16x128, .f32⟩
  | 2 => ⟨S128, .f32⟩
  | 3 => ⟨S64, .f32⟩
  | 4 => ⟨S64, .f32⟩
  | 5 => ⟨S2x8192x1552, .f32⟩
  | 6 => ⟨S2x8192x128, .f32⟩
  | 7 => ⟨S2x8192x128, .f32⟩
  | 8 => ⟨S2x8192x256, .f32⟩
  | 9 => ⟨S2x8192x256, .f32⟩
  | 10 => ⟨S2x8192x128, .f32⟩
  | 11 => ⟨S2x8192x128, .f32⟩
  | 12 => ⟨S2x8192x256, .f32⟩
  | 13 => ⟨S2x8192x256, .f32⟩
  | 14 => ⟨S2x8192x16, .f32⟩
  | 15 => ⟨S8192, .i32⟩
  | 16 => ⟨S2x8192x4x32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S15, .f32⟩
  | 25 => ⟨S_, .f32⟩
  | 26 => ⟨S15, .f32⟩
  | 27 => ⟨S15, .f32⟩
  | 28 => ⟨S1, .f32⟩
  | 29 => ⟨S_, .f32⟩
  | 30 => ⟨S15, .f32⟩
  | 31 => ⟨S15, .f32⟩
  | 32 => ⟨S15, .f32⟩
  | 33 => ⟨S15, .f32⟩
  | 34 => ⟨S1, .f32⟩
  | 35 => ⟨S15, .f32⟩
  | 36 => ⟨S15, .f32⟩
  | 37 => ⟨S15, .f32⟩
  | 38 => ⟨S1, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S8192, .f32⟩
  | 47 => ⟨S8192x1, .f32⟩
  | 48 => ⟨S1x16, .f32⟩
  | 49 => ⟨S8192x16, .f32⟩
  | 50 => ⟨S8192x16, .f32⟩
  | 51 => ⟨S8192x16, .f32⟩
  | 52 => ⟨S8192x16, .f32⟩
  | 53 => ⟨S1x8192x1x16, .f32⟩
  | 54 => ⟨S8192x16, .f32⟩
  | 55 => ⟨S1x8192x1x16, .f32⟩
  | 56 => ⟨S2x8192x4x16, .f32⟩
  | 57 => ⟨S2x8192x4x16, .f32⟩
  | 58 => ⟨S2x8192x4x16, .f32⟩
  | 59 => ⟨S2x8192x4x16, .f32⟩
  | 60 => ⟨S2x8192x4x16, .f32⟩
  | 61 => ⟨S2x8192x4x16, .f32⟩
  | 62 => ⟨S2x8192x4x16, .f32⟩
  | 63 => ⟨S2x8192x4x16, .f32⟩
  | 64 => ⟨S2x8192x4x16, .f32⟩
  | 65 => ⟨S2x8192x4x16, .f32⟩
  | 66 => ⟨S2x8192x4x16, .f32⟩
  | 67 => ⟨S2x8192x4x16, .f32⟩
  | 68 => ⟨S2x8192x4x32, .f32⟩
  | 69 => ⟨S2x8192x4x32, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S15, .f32⟩
  | 78 => ⟨S_, .f32⟩
  | 79 => ⟨S15, .f32⟩
  | 80 => ⟨S15, .f32⟩
  | 81 => ⟨S1, .f32⟩
  | 82 => ⟨S_, .f32⟩
  | 83 => ⟨S15, .f32⟩
  | 84 => ⟨S15, .f32⟩
  | 85 => ⟨S15, .f32⟩
  | 86 => ⟨S15, .f32⟩
  | 87 => ⟨S1, .f32⟩
  | 88 => ⟨S15, .f32⟩
  | 89 => ⟨S15, .f32⟩
  | 90 => ⟨S15, .f32⟩
  | 91 => ⟨S1, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8192, .f32⟩
  | 100 => ⟨S8192x1, .f32⟩
  | 101 => ⟨S1x16, .f32⟩
  | 102 => ⟨S8192x16, .f32⟩
  | 103 => ⟨S8192x16, .f32⟩
  | 104 => ⟨S8192x16, .f32⟩
  | 105 => ⟨S8192x16, .f32⟩
  | 106 => ⟨S1x8192x1x16, .f32⟩
  | 107 => ⟨S8192x16, .f32⟩
  | 108 => ⟨S1x8192x1x16, .f32⟩
  | 109 => ⟨S2x8192x4x16, .f32⟩
  | 110 => ⟨S2x8192x4x16, .f32⟩
  | 111 => ⟨S2x8192x4x16, .f32⟩
  | 112 => ⟨S2x8192x4x16, .f32⟩
  | 113 => ⟨S2x8192x4x16, .f32⟩
  | 114 => ⟨S2x8192x4x16, .f32⟩
  | 115 => ⟨S2x8192x4x16, .f32⟩
  | 116 => ⟨S2x8192x4x16, .f32⟩
  | 117 => ⟨S2x8192x4x16, .f32⟩
  | 118 => ⟨S2x8192x4x16, .f32⟩
  | 119 => ⟨S2x8192x4x16, .f32⟩
  | 120 => ⟨S2x8192x4x16, .f32⟩
  | 121 => ⟨S2x8192x4x32, .f32⟩
  | 122 => ⟨S_, .f32⟩
  | 123 => ⟨S2x8192x4x32, .f32⟩
  | 124 => ⟨S2x8192x4x32, .f32⟩
  | 125 => ⟨S4, .f32⟩
  | 126 => ⟨S_, .f32⟩
  | 127 => ⟨S4, .f32⟩
  | _ => ⟨S2x8192x1664, .f32⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S_, .f32⟩
  | 5 => ⟨S4, .f32⟩
  | 6 => ⟨S4, .f32⟩
  | 7 => ⟨S4, .f32⟩
  | 8 => ⟨S1x1x4x1, .f32⟩
  | 9 => ⟨S2x8192x4x32, .f32⟩
  | 10 => ⟨S2x8192x4x32, .f32⟩
  | 11 => ⟨S_, .f32⟩
  | 12 => ⟨S2x8192x4x32, .f32⟩
  | 13 => ⟨S2x8192x4x32, .f32⟩
  | 14 => ⟨S2x8192x4x32, .f32⟩
  | 15 => ⟨S2x8192x128, .f32⟩
  | 16 => ⟨S1x1x128, .f32⟩
  | 17 => ⟨S2x8192x128, .f32⟩
  | 18 => ⟨S2x8192x128, .f32⟩
  | 19 => ⟨S2x8192x128, .f32⟩
  | 20 => ⟨S_, .f32⟩
  | 21 => ⟨S2x8192x128, .f32⟩
  | 22 => ⟨S2x8192x128, .f32⟩
  | 23 => ⟨S2x8192x128, .f32⟩
  | 24 => ⟨S2x8192x128, .f32⟩
  | 25 => ⟨S2x8192x128, .i1⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S2x8192x128, .f32⟩
  | 32 => ⟨S2x8192x128, .f32⟩
  | 33 => ⟨S2x8192x128, .f32⟩
  | 34 => ⟨S2x8192x128, .f32⟩
  | 35 => ⟨S_, .f32⟩
  | 36 => ⟨S2x8192x128, .f32⟩
  | 37 => ⟨S2x8192x128, .f32⟩
  | 38 => ⟨S2x8192x4x32, .f32⟩
  | 39 => ⟨S2x8192x8x32, .f32⟩
  | 40 => ⟨S2x8192x8x32, .f32⟩
  | 41 => ⟨S2x8192x4x64, .f32⟩
  | 42 => ⟨S2x8192x4x64, .f32⟩
  | 43 => ⟨S2x8192x8x64, .f32⟩
  | 44 => ⟨S2x8192x8x32, .f32⟩
  | 45 => ⟨S_, .f32⟩
  | 46 => ⟨S2x8x32x64, .f32⟩
  | 47 => ⟨S2x512x16x8x32, .f32⟩
  | 48 => ⟨S2x512x16x8x32, .f32⟩
  | 49 => ⟨S2x512x16x8x64, .f32⟩
  | 50 => ⟨S2x512x16x8x32, .f32⟩
  | 51 => ⟨S_, .f32⟩
  | 52 => ⟨S_, .f32⟩
  | 53 => ⟨S2x512x16x8x32, .f32⟩
  | 54 => ⟨S2x512x1x8x32, .f32⟩
  | 55 => ⟨S2x512x16x8x32, .f32⟩
  | 56 => ⟨S2x512x16x8x32, .f32⟩
  | 57 => ⟨S2x512x16x8x32, .f32⟩
  | 58 => ⟨S2x512x16x8x32, .f32⟩
  | 59 => ⟨S2x512x16x8x32, .f32⟩
  | 60 => ⟨S2x512x8x16x16, .f32⟩
  | 61 => ⟨S_, .i1⟩
  | 62 => ⟨S16x16, .i1⟩
  | 63 => ⟨S16x16, .i32⟩
  | 64 => ⟨S_, .i32⟩
  | 65 => ⟨S16x16, .i32⟩
  | 66 => ⟨S16x16, .i32⟩
  | 67 => ⟨S16x16, .i32⟩
  | 68 => ⟨S16x16, .i1⟩
  | 69 => ⟨S_, .i1⟩
  | 70 => ⟨S16x16, .i1⟩
  | 71 => ⟨S16x16, .i1⟩
  | 72 => ⟨S_, .f32⟩
  | 73 => ⟨S_, .f32⟩
  | 74 => ⟨S2x512x8x16x16, .i1⟩
  | 75 => ⟨S2x512x8x16x16, .f32⟩
  | 76 => ⟨S2x512x8x16x16, .f32⟩
  | 77 => ⟨S2x512x8x64x16, .f32⟩
  | 78 => ⟨S2x512x16x8x64, .f32⟩
  | 79 => ⟨S2x512x16x8x32, .f32⟩
  | 80 => ⟨S2x512x16x8x32, .f32⟩
  | 81 => ⟨S2x512x16x8x32, .f32⟩
  | 82 => ⟨S2x512x16x8x32, .f32⟩
  | 83 => ⟨S2x512x8x32x64, .f32⟩
  | 84 => ⟨S2x512x8x32, .f32⟩
  | 85 => ⟨S2x512x8x32, .f32⟩
  | 86 => ⟨S512x2x8x32, .f32⟩
  | 87 => ⟨S512x2x8x32x64, .f32⟩
  | 88 => ⟨S_, .f32⟩
  | 89 => ⟨S512x2x8x32x64, .f32⟩
  | 90 => ⟨S_, .i32⟩
  | 91 => ⟨S512x2x8x32, .f32⟩
  | 92 => ⟨S512x2x8x32x64, .f32⟩
  | 93 => ⟨S_, .i32⟩
  | 94 => ⟨S2x8x32x64, .f32⟩
  | 95 => ⟨S512x2x8x32x64, .f32⟩
  | 96 => ⟨S_, .i32⟩
  | 97 => ⟨S_, .i1⟩
  | 98 => ⟨S_, .i32⟩
  | 99 => ⟨S_, .i32⟩
  | 100 => ⟨S_, .i32⟩
  | 101 => ⟨S1x2x8x32, .f32⟩
  | 102 => ⟨S2x8x32, .f32⟩
  | 103 => ⟨S_, .i32⟩
  | 104 => ⟨S_, .i32⟩
  | 105 => ⟨S_, .i32⟩
  | 106 => ⟨S_, .i32⟩
  | 107 => ⟨S1x2x8x32x64, .f32⟩
  | 108 => ⟨S2x8x32x64, .f32⟩
  | 109 => ⟨S2x8x32x1, .f32⟩
  | 110 => ⟨S2x8x32x64, .f32⟩
  | 111 => ⟨S2x8x32x64, .f32⟩
  | 112 => ⟨S2x8x32x64, .f32⟩
  | 113 => ⟨S1x2x8x32x64, .f32⟩
  | 114 => ⟨S_, .i32⟩
  | 115 => ⟨S_, .i32⟩
  | 116 => ⟨S_, .i32⟩
  | 117 => ⟨S_, .i32⟩
  | 118 => ⟨S512x2x8x32x64, .f32⟩
  | 119 => ⟨S_, .i32⟩
  | 120 => ⟨S_, .i32⟩
  | 121 => ⟨S2x512x8x32x64, .f32⟩
  | 122 => ⟨S2x512x8x64x16, .f32⟩
  | 123 => ⟨S2x512x16x8x64, .f32⟩
  | 124 => ⟨S2x512x16x8x64, .f32⟩
  | 125 => ⟨S2x8192x8x64, .f32⟩
  | 126 => ⟨S2x8192x4x64, .f32⟩
  | 127 => ⟨S2x8192x4x64, .f32⟩
  | _ => ⟨S2x8192x1664, .f32⟩

abbrev hbmTy0_2 (i : Nat) : BufTy := match i % 128 with
  | 0 => ⟨S_, .f32⟩
  | 1 => ⟨S2x8192x4, .f32⟩
  | 2 => ⟨S2x8192x4x1, .f32⟩
  | 3 => ⟨S_, .f32⟩
  | 4 => ⟨S2x8192x4x1, .f32⟩
  | 5 => ⟨S2x8192x4x1, .f32⟩
  | 6 => ⟨S_, .f32⟩
  | 7 => ⟨S2x8192x4x1, .f32⟩
  | 8 => ⟨S2x8192x4x1, .f32⟩
  | 9 => ⟨S2x8192x4x1, .f32⟩
  | 10 => ⟨S2x8192x4x64, .f32⟩
  | 11 => ⟨S2x8192x4x64, .f32⟩
  | 12 => ⟨S1x1x1x64, .f32⟩
  | 13 => ⟨S2x8192x4x64, .f32⟩
  | 14 => ⟨S2x8192x4x64, .f32⟩
  | 15 => ⟨S2x8192x256, .f32⟩
  | 16 => ⟨S2x8192x256, .f32⟩
  | 17 => ⟨S2x8192x256, .f32⟩
  | 18 => ⟨S_, .f32⟩
  | 19 => ⟨S2x8192x256, .f32⟩
  | 20 => ⟨S2x8192x256, .f32⟩
  | 21 => ⟨S_, .f32⟩
  | 22 => ⟨S2x8192x256, .f32⟩
  | 23 => ⟨S2x8192x256, .f32⟩
  | 24 => ⟨S2x8192x256, .f32⟩
  | 25 => ⟨S2x8192x256, .f32⟩
  | 26 => ⟨S2x8192x4x64, .f32⟩
  | 27 => ⟨S2x8192x4x64, .f32⟩
  | 28 => ⟨S_, .f32⟩
  | 29 => ⟨S2x8192x4, .f32⟩
  | 30 => ⟨S2x8192x4x1, .f32⟩
  | 31 => ⟨S_, .f32⟩
  | 32 => ⟨S2x8192x4x1, .f32⟩
  | 33 => ⟨S2x8192x4x1, .f32⟩
  | 34 => ⟨S_, .f32⟩
  | 35 => ⟨S2x8192x4x1, .f32⟩
  | 36 => ⟨S2x8192x4x1, .f32⟩
  | 37 => ⟨S2x8192x4x1, .f32⟩
  | 38 => ⟨S2x8192x4x64, .f32⟩
  | 39 => ⟨S2x8192x4x64, .f32⟩
  | 40 => ⟨S1x1x1x64, .f32⟩
  | 41 => ⟨S2x8192x4x64, .f32⟩
  | 42 => ⟨S2x8192x4x64, .f32⟩
  | 43 => ⟨S2x8192x256, .f32⟩
  | 44 => ⟨S2x8192x256, .f32⟩
  | 45 => ⟨S2x8192x256, .f32⟩
  | 46 => ⟨S_, .f32⟩
  | 47 => ⟨S2x8192x256, .f32⟩
  | 48 => ⟨S2x8192x256, .f32⟩
  | 49 => ⟨S_, .f32⟩
  | 50 => ⟨S2x8192x256, .f32⟩
  | 51 => ⟨S2x8192x256, .f32⟩
  | 52 => ⟨S2x8192x256, .f32⟩
  | 53 => ⟨S2x8192x256, .f32⟩
  | 54 => ⟨S2x2x4x32x64, .f32⟩
  | 55 => ⟨S4x4, .i32⟩
  | 56 => ⟨S4x4, .i32⟩
  | 57 => ⟨S_, .i32⟩
  | 58 => ⟨S4x4, .i32⟩
  | 59 => ⟨S4x4, .i32⟩
  | 60 => ⟨S4x4, .i1⟩
  | 61 => ⟨S1x1x4x1x4x1, .i1⟩
  | 62 => ⟨S2x2x4x32x1x64, .f32⟩
  | 63 => ⟨S_, .f32⟩
  | 64 => ⟨S_, .f32⟩
  | 65 => ⟨S2x2x4x32x4x64, .i1⟩
  | 66 => ⟨S2x2x4x32x4x64, .f32⟩
  | 67 => ⟨S2x2x4x32x4x64, .f32⟩
  | 68 => ⟨S2x2x4x32x4x64, .f32⟩
  | 69 => ⟨S2x8192x512, .f32⟩
  | 70 => ⟨S2x8192x512, .bf16⟩
  | 71 => ⟨S2x2x128x256, .f32⟩
  | _ => ⟨S2x8192x1664, .f32⟩

abbrev hbmTy (i : Nat) : BufTy := match i / 128 with
  | 0 => hbmTy0_0 i
  | 1 => hbmTy0_1 i
  | 2 => hbmTy0_2 i
  | _ => ⟨S2x8192x1664, .f32⟩

abbrev bufTy : (tb : Table) → Fin (tcTables nBuf tb) → BufTy
  | .hbm, ⟨i, _⟩ => hbmTy i
  | _, _ => ⟨S2x8192x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_cst_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_cst : Ref sig .tc := ⟨.hbm, 75, rfl⟩
abbrev main_call1_v3 : Ref sig .tc := ⟨.hbm, 76, rfl⟩
abbrev main_call1_v4 : Ref sig .tc := ⟨.hbm, 77, rfl⟩
abbrev main_call1_cst_0 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_v15 : Ref sig .tc := ⟨.hbm, 90, rfl⟩
abbrev main_call1_v16 : Ref sig .tc := ⟨.hbm, 91, rfl⟩
abbrev main_v41 : Ref sig .tc := ⟨.hbm, 92, rfl⟩
abbrev main_cst_5 : Ref sig .tc := ⟨.hbm, 93, rfl⟩
abbrev main_v42 : Ref sig .tc := ⟨.hbm, 94, rfl⟩
abbrev main_v43 : Ref sig .tc := ⟨.hbm, 95, rfl⟩
abbrev main_cst_6 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_7 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_8 : Ref sig .tc := ⟨.hbm, 126, rfl⟩
abbrev main_v72 : Ref sig .tc := ⟨.hbm, 127, rfl⟩
abbrev main_v73 : Ref sig .tc := ⟨.hbm, 128, rfl⟩
abbrev main_cst_9 : Ref sig .tc := ⟨.hbm, 129, rfl⟩
abbrev main_v74 : Ref sig .tc := ⟨.hbm, 130, rfl⟩
abbrev main_v75 : Ref sig .tc := ⟨.hbm, 131, rfl⟩
abbrev main_cst_10 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_11 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_call2_v0 : Ref sig .tc := ⟨.hbm, 147, rfl⟩
abbrev main_call2_call0_cst : Ref sig .tc := ⟨.hbm, 148, rfl⟩
abbrev main_call2_call0_v0 : Ref sig .tc := ⟨.hbm, 149, rfl⟩
abbrev main_call2_call0_v1 : Ref sig .tc := ⟨.hbm, 150, rfl⟩
abbrev main_call2_call0_v2 : Ref sig .tc := ⟨.hbm, 151, rfl⟩
abbrev main_call2_call0_v3 : Ref sig .tc := ⟨.hbm, 152, rfl⟩
abbrev main_call2_call0_v4 : Ref sig .tc := ⟨.hbm, 153, rfl⟩
abbrev main_call2_call0_v5 : Ref sig .tc := ⟨.hbm, 154, rfl⟩
abbrev main_call2_call0_v6 : Ref sig .tc := ⟨.hbm, 155, rfl⟩
abbrev main_call2_call0_v7 : Ref sig .tc := ⟨.hbm, 156, rfl⟩
abbrev main_call2_call0_v8 : Ref sig .tc := ⟨.hbm, 157, rfl⟩
abbrev main_call2_call0_v9 : Ref sig .tc := ⟨.hbm, 158, rfl⟩
abbrev main_call2_call0_v10 : Ref sig .tc := ⟨.hbm, 159, rfl⟩
abbrev main_call2_call0_v11 : Ref sig .tc := ⟨.hbm, 160, rfl⟩
abbrev main_call2_v1 : Ref sig .tc := ⟨.hbm, 161, rfl⟩
abbrev main_v89 : Ref sig .tc := ⟨.hbm, 162, rfl⟩
abbrev main_cst_12 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_cst_13 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_call3_call0_cst : Ref sig .tc := ⟨.hbm, 179, rfl⟩
abbrev main_call3_call0_v0 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_c : Ref sig .tc := ⟨.hbm, 189, rfl⟩
abbrev main_v112 : Ref sig .tc := ⟨.hbm, 190, rfl⟩
abbrev main_call4_v0 : Ref sig .tc := ⟨.hbm, 191, rfl⟩
abbrev main_call4_c : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_c_0 : Ref sig .tc := ⟨.hbm, 197, rfl⟩
abbrev main_call4_v5 : Ref sig .tc := ⟨.hbm, 198, rfl⟩
abbrev main_v113 : Ref sig .tc := ⟨.hbm, 199, rfl⟩
abbrev main_cst_14 : Ref sig .tc := ⟨.hbm, 200, rfl⟩
abbrev main_call5_v0 : Ref sig .tc := ⟨.hbm, 201, rfl⟩
abbrev main_call5_v1 : Ref sig .tc := ⟨.hbm, 202, rfl⟩
abbrev main_call5_v2 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_cst_15 : Ref sig .tc := ⟨.hbm, 216, rfl⟩
abbrev main_v126 : Ref sig .tc := ⟨.hbm, 217, rfl⟩
abbrev main_c_16 : Ref sig .tc := ⟨.hbm, 218, rfl⟩
abbrev main_v127_0 : Ref sig .tc := ⟨.hbm, 219, rfl⟩
abbrev main_v127_1 : Ref sig .tc := ⟨.hbm, 220, rfl⟩
abbrev main_v127_2 : Ref sig .tc := ⟨.hbm, 221, rfl⟩
abbrev main_v127_3 : Ref sig .tc := ⟨.hbm, 222, rfl⟩
abbrev main_v127_4 : Ref sig .tc := ⟨.hbm, 223, rfl⟩
abbrev main_while0c_c_29 : Ref sig .tc := ⟨.hbm, 224, rfl⟩
abbrev main_while0c_v179 : Ref sig .tc := ⟨.hbm, 225, rfl⟩
abbrev main_while0b_call6_c : Ref sig .tc := ⟨.hbm, 226, rfl⟩
abbrev main_while0b_call6_c_0 : Ref sig .tc := ⟨.hbm, 227, rfl⟩
abbrev main_while0b_call6_c_1 : Ref sig .tc := ⟨.hbm, 228, rfl⟩
abbrev main_while0b_call6_v0 : Ref sig .tc := ⟨.hbm, 229, rfl⟩
abbrev main_while0b_v179 : Ref sig .tc := ⟨.hbm, 230, rfl⟩
abbrev main_while0b_call7_c : Ref sig .tc := ⟨.hbm, 231, rfl⟩
abbrev main_while0b_call7_c_0 : Ref sig .tc := ⟨.hbm, 232, rfl⟩
abbrev main_while0b_call7_c_1 : Ref sig .tc := ⟨.hbm, 233, rfl⟩
abbrev main_while0b_call7_c_2 : Ref sig .tc := ⟨.hbm, 234, rfl⟩
abbrev main_while0b_call7_v0 : Ref sig .tc := ⟨.hbm, 235, rfl⟩
abbrev main_while0b_v180 : Ref sig .tc := ⟨.hbm, 236, rfl⟩
abbrev main_while0b_v181 : Ref sig .tc := ⟨.hbm, 237, rfl⟩
abbrev main_while0b_v182 : Ref sig .tc := ⟨.hbm, 238, rfl⟩
abbrev main_while0b_v183 : Ref sig .tc := ⟨.hbm, 239, rfl⟩
abbrev main_while0b_v184 : Ref sig .tc := ⟨.hbm, 240, rfl⟩
abbrev main_while0b_call8_v0 : Ref sig .tc := ⟨.hbm, 241, rfl⟩
abbrev main_while0b_call8_c : Ref sig .tc := ⟨.hbm, 242, rfl⟩
abbrev main_while0b_call8_c_0 : Ref sig .tc := ⟨.hbm, 243, rfl⟩
abbrev main_while0b_call8_c_1 : Ref sig .tc := ⟨.hbm, 244, rfl⟩
abbrev main_while0b_call8_c_2 : Ref sig .tc := ⟨.hbm, 245, rfl⟩
abbrev main_while0b_v185 : Ref sig .tc := ⟨.hbm, 246, rfl⟩
abbrev main_while0b_c_29 : Ref sig .tc := ⟨.hbm, 247, rfl⟩
abbrev main_while0b_v186 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_cst_17 : Ref sig .tc := ⟨.hbm, 256, rfl⟩
abbrev main_v135 : Ref sig .tc := ⟨.hbm, 257, rfl⟩
abbrev main_v136 : Ref sig .tc := ⟨.hbm, 258, rfl⟩
abbrev main_cst_18 : Ref sig .tc := ⟨.hbm, 259, rfl⟩
abbrev main_v137 : Ref sig .tc := ⟨.hbm, 260, rfl⟩
abbrev main_v138 : Ref sig .tc := ⟨.hbm, 261, rfl⟩
abbrev main_cst_19 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_call9_v0 : Ref sig .tc := ⟨.hbm, 272, rfl⟩
abbrev main_call9_v1 : Ref sig .tc := ⟨.hbm, 273, rfl⟩
abbrev main_call9_cst : Ref sig .tc := ⟨.hbm, 274, rfl⟩
abbrev main_call9_v2 : Ref sig .tc := ⟨.hbm, 275, rfl⟩
abbrev main_call9_v3 : Ref sig .tc := ⟨.hbm, 276, rfl⟩
abbrev main_call9_cst_0 : Ref sig .tc := ⟨.hbm, 277, rfl⟩
abbrev main_call9_v4 : Ref sig .tc := ⟨.hbm, 278, rfl⟩
abbrev main_call9_v5 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_cst_20 : Ref sig .tc := ⟨.hbm, 284, rfl⟩
abbrev main_v152 : Ref sig .tc := ⟨.hbm, 285, rfl⟩
abbrev main_v153 : Ref sig .tc := ⟨.hbm, 286, rfl⟩
abbrev main_cst_21 : Ref sig .tc := ⟨.hbm, 287, rfl⟩
abbrev main_v154 : Ref sig .tc := ⟨.hbm, 288, rfl⟩
abbrev main_v155 : Ref sig .tc := ⟨.hbm, 289, rfl⟩
abbrev main_cst_22 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_call10_v0 : Ref sig .tc := ⟨.hbm, 300, rfl⟩
abbrev main_call10_v1 : Ref sig .tc := ⟨.hbm, 301, rfl⟩
abbrev main_call10_cst : Ref sig .tc := ⟨.hbm, 302, rfl⟩
abbrev main_call10_v2 : Ref sig .tc := ⟨.hbm, 303, rfl⟩
abbrev main_call10_v3 : Ref sig .tc := ⟨.hbm, 304, rfl⟩
abbrev main_call10_cst_0 : Ref sig .tc := ⟨.hbm, 305, rfl⟩
abbrev main_call10_v4 : Ref sig .tc := ⟨.hbm, 306, rfl⟩
abbrev main_call10_v5 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_c_23 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_cst_24 : Ref sig .tc := ⟨.hbm, 319, rfl⟩
abbrev main_call11_v0 : Ref sig .tc := ⟨.hbm, 320, rfl⟩
abbrev main_call11_v1 : Ref sig .tc := ⟨.hbm, 321, rfl⟩
abbrev main_call11_v2 : Ref sig .tc := ⟨.hbm, 322, rfl⟩
abbrev main_call11_v3 : Ref sig .tc := ⟨.hbm, 323, rfl⟩
abbrev main_v175 : Ref sig .tc := ⟨.hbm, 324, rfl⟩
abbrev main_v176 : Ref sig .tc := ⟨.hbm, 325, rfl⟩
abbrev main_v177 : Ref sig .tc := ⟨.hbm, 326, rfl⟩
abbrev main_v178 : Ref sig .tc := ⟨.hbm, 327, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x3088 : Shape := ⟨2, ![1024, 3088]⟩
abbrev S3088x1024 : Shape := ⟨2, ![3088, 1024]⟩
abbrev S1552x1024 : Shape := ⟨2, ![1552, 1024]⟩
abbrev S_ : Shape := ⟨0, ![]⟩
abbrev S112x1024 : Shape := ⟨2, ![112, 1024]⟩
abbrev S1664x1024 : Shape := ⟨2, ![1664, 1024]⟩
abbrev S1024x1664 : Shape := ⟨2, ![1024, 1664]⟩
abbrev S512x1024 : Shape := ⟨2, ![512, 1024]⟩
abbrev S1x1024 : Shape := ⟨2, ![1, 1024]⟩
abbrev S2x8192x1664 : Shape := ⟨3, ![2, 8192, 1664]⟩
abbrev S2x512x8192 : Shape := ⟨3, ![2, 512, 8192]⟩
abbrev S1x512x1024 : Shape := ⟨3, ![1, 512, 1024]⟩
abbrev S1x512x1664 : Shape := ⟨3, ![1, 512, 1664]⟩
abbrev S1x512x512 : Shape := ⟨3, ![1, 512, 512]⟩
abbrev S512 : Shape := ⟨1, ![512]⟩
abbrev S512x1 : Shape := ⟨2, ![512, 1]⟩
abbrev S512x1664 : Shape := ⟨2, ![512, 1664]⟩
abbrev S512x512 : Shape := ⟨2, ![512, 512]⟩

abbrev nBuf : Space → Nat
  | .hbm => 21
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3088, .f32⟩
  | .hbm, ⟨3, _⟩ => ⟨S3088x1024, .f32⟩
  | .hbm, ⟨4, _⟩ => ⟨S1552x1024, .f32⟩
  | .hbm, ⟨5, _⟩ => ⟨S_, .f32⟩
  | .hbm, ⟨6, _⟩ => ⟨S112x1024, .f32⟩
  | .hbm, ⟨7, _⟩ => ⟨S1664x1024, .f32⟩
  | .hbm, ⟨8, _⟩ => ⟨S1024x1664, .f32⟩
  | .hbm, ⟨9, _⟩ => ⟨S1024x1664, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S2x8192x1664, .f32⟩
  | .hbm, ⟨18, _⟩ => ⟨S2x512x8192, .f32⟩
  | .hbm, ⟨19, _⟩ => ⟨S2x512x8192, .f32⟩
  | .hbm, ⟨20, _⟩ => ⟨S2x512x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1664, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x512x1664, .f32⟩
  | .local _ .vmem, ⟨8, _⟩ => ⟨S1x512x1664, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x8192x1024 : Shape := ⟨3, ![2, 8192, 1024]⟩
abbrev S1024 : Shape := ⟨1, ![1024]⟩
abbrev S1024x3088 : Shape := ⟨2, ![1024, 3088]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3088 : Shape := ⟨3, ![2, 8192, 3088]⟩
abbrev S2x8192x1552 : Shape := ⟨3, ![2, 8192, 1552]⟩
abbrev S2x8192x512 : Shape := ⟨3, ![2, 8192, 512]⟩
abbrev S2x8192x112 : Shape := ⟨3, ![2, 8192, 112]⟩
abbrev S2x8192x1664 : Shape := ⟨3, ![2, 8192, 1664]⟩
abbrev S2x512x8192 : Shape := ⟨3, ![2, 512, 8192]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3088, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x3088, .f32⟩
  | .hbm, ⟨20, _⟩ => ⟨S2x8192x1552, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S_, .f32⟩
  | .hbm, ⟨25, _⟩ => ⟨S2x8192x112, .f32⟩
  | .hbm, ⟨26, _⟩ => ⟨S2x8192x1664, .f32⟩
  | .hbm, ⟨27, _⟩ => ⟨S2x512x8192, .f32⟩
  | .hbm, ⟨28, _⟩ => ⟨S2x512x8192, .f32⟩
  | .hbm, ⟨29, _⟩ => ⟨S2x512x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S256x1024 : Shape := ⟨2, ![256, 1024]⟩
abbrev S256x512 : Shape := ⟨2, ![256, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 20
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference4Ideal.lean ====
abbrev S256x1024 : Shape := ⟨2, ![256, 1024]⟩
abbrev S256x512 : Shape := ⟨2, ![256, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩

abbrev nBuf : Space → Nat
  | .hbm => 77
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S256x512, .f32⟩
  | .hbm, ⟨11, _⟩ => ⟨S256x512, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S256x1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S256x2816, .f32⟩
  | .hbm, ⟨48, _⟩ => ⟨S256x2816, .f32⟩
  | .hbm, ⟨49, _⟩ => ⟨S256x2816, .f32⟩
  | .hbm, ⟨50, _⟩ => ⟨S_, .f32⟩
  | .hbm, ⟨51, _⟩ => ⟨S256x2816, .f32⟩
  | .hbm, ⟨52, _⟩ => ⟨S256x2816, .f32⟩
  | .hbm, ⟨53, _⟩ => ⟨S_, .f32⟩
  | .hbm, ⟨54, _⟩ => ⟨S256x2816, .f32⟩
  | .hbm, ⟨55, _⟩ => ⟨S256x2816, .f32⟩
  | .hbm, ⟨56, _⟩ => ⟨S256x2816, .f32⟩
  | .hbm, ⟨57, _⟩ => ⟨S256x2816, .f32⟩
  | .hbm, ⟨58, _⟩ => ⟨S256x2816, .f32⟩
  | .hbm, ⟨59, _⟩ => ⟨S256x1024, .f32⟩
  | .hbm, ⟨60, _⟩ => ⟨S256x1024, .f32⟩
  | .hbm, ⟨61, _⟩ => ⟨S_, .f32⟩
  | .hbm, ⟨62, _⟩ => ⟨S256, .f32⟩
  | .hbm, ⟨63, _⟩ => ⟨S256x1, .f32⟩
  | .hbm, ⟨64, _⟩ => ⟨S_, .f32⟩
  | .hbm, ⟨65, _⟩ => ⟨S256x1, .f32⟩
  | .hbm, ⟨66, _⟩ => ⟨S256x1, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S256x1, .f32⟩
  | .hbm, ⟨71, _⟩ => ⟨S256x1024, .f32⟩
  | .hbm, ⟨72, _⟩ => ⟨S256x1024, .f32⟩
  | .hbm, ⟨73, _⟩ => ⟨S1x1024, .f32⟩
  | .hbm, ⟨74, _⟩ => ⟨S256x1024, .f32⟩
  | .hbm, ⟨75, _⟩ => ⟨S256x1024, .f32⟩
  | .hbm, ⟨76, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel5.lean ====
abbrev S1x256x1024 : Shape := ⟨3, ![1, 256, 1024]⟩
abbrev S1024 : Shape := ⟨1, ![1024]⟩
abbrev S1024x3088 : Shape := ⟨2, ![1024, 3088]⟩
abbrev S3088x1024 : Shape := ⟨2, ![3088, 1024]⟩
abbrev S1552x1024 : Shape := ⟨2, ![1552, 1024]⟩
abbrev S_ : Shape := ⟨0, ![]⟩
abbrev S112x1024 : Shape := ⟨2, ![112, 1024]⟩
abbrev S1664x1024 : Shape := ⟨2, ![1664, 1024]⟩
abbrev S1024x1664 : Shape := ⟨2, ![1024, 1664]⟩
abbrev S512x1024 : Shape := ⟨2, ![512, 1024]⟩
abbrev S1x1024 : Shape := ⟨2, ![1, 1024]⟩
abbrev S1x256x1664 : Shape := ⟨3, ![1, 256, 1664]⟩
abbrev S1x512x256 : Shape := ⟨3, ![1, 512, 256]⟩
abbrev S256x1024 : Shape := ⟨2, ![256, 1024]⟩
abbrev S256 : Shape := ⟨1, ![256]⟩
abbrev S256x1 : Shape := ⟨2, ![256, 1]⟩
abbrev S256x1664 : Shape := ⟨2, ![256, 1664]⟩
abbrev S512x256 : Shape := ⟨2, ![512, 256]⟩

abbrev nBuf : Space → Nat
  | .hbm => 21
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x3088, .f32⟩
  | .hbm, ⟨3, _⟩ => ⟨S3088x1024, .f32⟩
  | .hbm, ⟨4, _⟩ => ⟨S1552x1024, .f32⟩
  | .hbm, ⟨5, _⟩ => ⟨S_, .f32⟩
  | .hbm, ⟨6, _⟩ => ⟨S112x1024, .f32⟩
  | .hbm, ⟨7, _⟩ => ⟨S1664x1024, .f32⟩
  | .hbm, ⟨8, _⟩ => ⟨S1024x1664, .f32⟩
  | .hbm, ⟨9, _⟩ => ⟨S1024x1664, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S1x256x1664, .f32⟩
  | .hbm, ⟨18, _⟩ => ⟨S1x512x256, .f32⟩
  | .hbm, ⟨19, _⟩ => ⟨S1x512x256, .f32⟩
  | .hbm, ⟨20, _⟩ => ⟨S1x512x256, .f32⟩
  | .local _ .vmem, ⟨0, _⟩ => ⟨S1x256x1024, .f32⟩
  | .local _ .vmem, ⟨1, _⟩ => ⟨S1x1024, .f32⟩
  | .local _ .vmem, ⟨2, _⟩ => ⟨S1024x1664, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x256x1664, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x1664 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== Reference5Ideal.lean ====
abbrev S1x256x1024 : Shape := ⟨3, ![1, 256, 1024]⟩
abbrev S1024 : Shape := ⟨1, ![1024]⟩
abbrev S1024x3088 : Shape := ⟨2, ![1024, 3088]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1x256x3088 : Shape := ⟨3, ![1, 256, 3088]⟩
abbrev S1x256x1552 : Shape := ⟨3, ![1, 256, 1552]⟩
abbrev S1x256x512 : Shape := ⟨3, ![1, 256, 512]⟩
abbrev S1x256x112 : Shape := ⟨3, ![1, 256, 112]⟩
abbrev S1x256x1664 : Shape := ⟨3, ![1, 256, 1664]⟩
abbrev S1x512x256 : Shape := ⟨3, ![1, 512, 256]⟩

abbrev nBuf : Space → Nat
  | .hbm => 30
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x3088, .f32⟩
  | .hbm, ⟨3, _⟩ => ⟨S1x256x1024, .f32⟩
  | .hbm, ⟨4, _⟩ => ⟨S_, .f32⟩
  | .hbm, ⟨5, _⟩ => ⟨S1x256, .f32⟩
  | .hbm, ⟨6, _⟩ => ⟨S1x256x1, .f32⟩
  | .hbm, ⟨7, _⟩ => ⟨S_, .f32⟩
  | .hbm, ⟨8, _⟩ => ⟨S1x256x1, .f32⟩
  | .hbm, ⟨9, _⟩ => ⟨S1x256x1, .f32⟩
  | .hbm, ⟨10, _⟩ => ⟨S_, .f32⟩
  | .hbm, ⟨11, _⟩ => ⟨S1x256x1, .f32⟩
  | .hbm, ⟨12, _⟩ => ⟨S1x256x1, .f32⟩
  | .hbm, ⟨13, _⟩ => ⟨S1x256x1, .f32⟩
  | .hbm, ⟨14, _⟩ => ⟨S1x256x1024, .f32⟩
  | .hbm, ⟨15, _⟩ => ⟨S1x256x1024, .f32⟩
  | .hbm, ⟨16, _⟩ => ⟨S1x1x1024, .f32⟩
  | .hbm, ⟨17, _⟩ => ⟨S1x256x1024, .f32⟩
  | .hbm, ⟨18, _⟩ => ⟨S1x256x1024, .f32⟩
  | .hbm, ⟨19, _⟩ => ⟨S1x256x3088, .f32⟩
  | .hbm, ⟨20, _⟩ => ⟨S1x256x1552, .f32⟩
  | .hbm, ⟨21, _⟩ => ⟨S1x256x512, .f32⟩
  | .hbm, ⟨22, _⟩ => ⟨S1x256x512, .f32⟩
  | .hbm, ⟨23, _⟩ => ⟨S1x256x512, .f32⟩
  | .hbm, ⟨24, _⟩ => ⟨S_, .f32⟩
  | .hbm, ⟨25, _⟩ => ⟨S1x256x112, .f32⟩
  | .hbm, ⟨26, _⟩ => ⟨S1x256x1664, .f32⟩
  | .hbm, ⟨27, _⟩ => ⟨S1x512x256, .f32⟩
  | .hbm, ⟨28, _⟩ => ⟨S1x512x256, .f32⟩
  | .hbm, ⟨29, _⟩ => ⟨S1x512x256, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel6.lean ====
abbrev S32x8x1664 : Shape := ⟨3, ![32, 8, 1664]⟩
abbrev S32x4x32x64 : Shape := ⟨4, ![32, 4, 32, 64]⟩
abbrev S16x128 : Shape := ⟨2, ![16, 128]⟩
abbrev S128 : Shape := ⟨1, ![128]⟩
abbrev S64 : Shape := ⟨1, ![64]⟩
abbrev S8 : Shape := ⟨1, ![8]⟩
abbrev S_ : Shape := ⟨0, ![]⟩
abbrev S15 : Shape := ⟨1, ![15]⟩
abbrev S1 : Shape := ⟨1, ![1]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x8x1x16 : Shape := ⟨4, ![1, 8, 1, 16]⟩
abbrev S1x8x8x16 : Shape := ⟨4, ![1, 8, 8, 16]⟩
abbrev S8x128 : Shape := ⟨2, ![8, 128]⟩
abbrev S4 : Shape := ⟨1, ![4]⟩
abbrev S4x32 : Shape := ⟨2, ![4, 32]⟩
abbrev S1x128 : Shape := ⟨2, ![1, 128]⟩
abbrev S112x128 : Shape := ⟨2, ![112, 128]⟩
abbrev S128x128 : Shape := ⟨2, ![128, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S4x4 : Shape := ⟨2, ![4, 4]⟩
abbrev S32x4x32x1x64 : Shape := ⟨5, ![32, 4, 32, 1, 64]⟩
abbrev S1x4x1x4x1 : Shape := ⟨5, ![1, 4, 1, 4, 1]⟩
abbrev S32x4x32x4x64 : Shape := ⟨5, ![32, 4, 32, 4, 64]⟩
abbrev S32x128x256 : Shape := ⟨3, ![32, 128, 256]⟩
abbrev S32x1x128x256 : Shape := ⟨4, ![32, 1, 128, 256]⟩
abbrev S32x2x128x256 : Shape := ⟨4, ![32, 2, 128, 256]⟩
abbrev S32x8x512 : Shape := ⟨3, ![32, 8, 512]⟩
abbrev S2x8x1664 : Shape := ⟨3, ![2, 8, 1664]⟩
abbrev S2x2x128x256 : Shape := ⟨4, ![2, 2, 128, 256]⟩
abbrev S2x8x512 : Shape := ⟨3, ![2, 8, 512]⟩
abbrev S8x8 : Shape := ⟨2, ![8, 8]⟩
abbrev S128x256 : Shape := ⟨2, ![128, 256]⟩
abbrev S256x256 : Shape := ⟨2, ![256, 256]⟩
abbrev S1x8x128 : Shape := ⟨3, ![1, 8, 128]⟩
abbrev S1x8x256 : Shape := ⟨3, ![1, 8, 256]⟩
abbrev S8x256 : Shape := ⟨2, ![8, 256]⟩
abbrev S128x8 : Shape := ⟨2, ![128, 8]⟩
abbrev S32x128 : Shape := ⟨2, ![32, 128]⟩
abbrev S32x8 : Shape := ⟨2, ![32, 8]⟩
abbrev S32x256 : Shape := ⟨2, ![32, 256]⟩
abbrev S1x1x128x256 : Shape := ⟨4, ![1, 1, 128, 256]⟩
abbrev S128x1 : Shape := ⟨2, ![128, 1]⟩

abbrev nBuf : Space → Nat
  | .hbm => 112
  | .vmem => 16
  | .smem => 0
  | _ => 0

abbrev bufTy : (tb : Table) → Fin (tcTables nBuf tb) → BufTy
  | .hbm, ⟨0, _⟩ => ⟨S32x8x1664, .f32⟩
  | .hbm, ⟨1, _⟩ => ⟨S32x4x32x64, .f32⟩
  | .hbm, ⟨2, _⟩ => ⟨S32x4x32x64, .f32⟩
  | .hbm, ⟨3, _⟩ => ⟨S16x128, .f32⟩
  | .hbm, ⟨4, _⟩ => ⟨S128, .f32⟩
  | .hbm, ⟨5, _⟩ => ⟨S64, .f32⟩
  | .hbm, ⟨6, _⟩ => ⟨S64, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S15, .f32⟩
  | .hbm, ⟨19, _⟩ => ⟨S_, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S_, .f32⟩
  | .hbm, ⟨24, _⟩ => ⟨S15, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S1, .f32⟩
  | .hbm, ⟨29, _⟩ => ⟨S15, .f32⟩
  | .hbm, ⟨30, _⟩ => ⟨S15, .f32⟩
  | .hbm, ⟨31, _⟩ => ⟨S15, .f32⟩
  | .hbm, ⟨32, _⟩ => ⟨S1, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S8, .f32⟩
  | .hbm, ⟨41, _⟩ => ⟨S8x1, .f32⟩
  | .hbm, ⟨42, _⟩ => ⟨S1x16, .f32⟩
  | .hbm, ⟨43, _⟩ => ⟨S8x16, .f32⟩
  | .hbm, ⟨44, _⟩ => ⟨S8x16, .f32⟩
  | .hbm, ⟨45, _⟩ => ⟨S8x16, .f32⟩
  | .hbm, ⟨46, _⟩ => ⟨S8x16, .f32⟩
  | .hbm, ⟨47, _⟩ => ⟨S1x8x1x16, .f32⟩
  | .hbm, ⟨48, _⟩ => ⟨S1x8x8x16, .f32⟩
  | .hbm, ⟨49, _⟩ => ⟨S8x128, .f32⟩
  | .hbm, ⟨50, _⟩ => ⟨S8x16, .f32⟩
  | .hbm, ⟨51, _⟩ => ⟨S1x8x1x16, .f32⟩
  | .hbm, ⟨52, _⟩ => ⟨S1x8x8x16, .f32⟩
  | .hbm, ⟨53, _⟩ => ⟨S8x128, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4x32, .f32⟩
  | .hbm, ⟨66, _⟩ => ⟨S128, .f32⟩
  | .hbm, ⟨67, _⟩ => ⟨S1x128, .f32⟩
  | .hbm, ⟨68, _⟩ => ⟨S_, .f32⟩
  | .hbm, ⟨69, _⟩ => ⟨S112x128, .f32⟩
  | .hbm, ⟨70, _⟩ => ⟨S128x128, .f32⟩
  | .hbm, ⟨71, _⟩ => ⟨S128x128, .bf16⟩
  | .hbm, ⟨72, _⟩ => ⟨S1x128, .f32⟩
  | .hbm, ⟨73, _⟩ => ⟨S1x64, .f32⟩
  | .hbm, ⟨74, _⟩ => ⟨S4x64, .f32⟩
  | .hbm, ⟨75, _⟩ => ⟨S256, .f32⟩
  | .hbm, ⟨76, _⟩ => ⟨S1x256, .f32⟩
  | .hbm, ⟨77, _⟩ => ⟨S1x64, .f32⟩
  | .hbm, ⟨78, _⟩ => ⟨S4x64, .f32⟩
  | .hbm, ⟨79, _⟩ => ⟨S256, .f32⟩
  | .hbm, ⟨80, _⟩ => ⟨S1x256, .f32⟩
  | .hbm, ⟨81, _⟩ => ⟨S4x4, .i32⟩
  | .hbm, ⟨82, _⟩ => ⟨S4x4, .i32⟩
  | .hbm, ⟨83, _⟩ => ⟨S_, .i32⟩
  | .hbm, ⟨84, _⟩ => ⟨S4x4, .i32⟩
  | .hbm, ⟨85, _⟩ => ⟨S4x4, .i32⟩
  | .hbm, ⟨86, _⟩ => ⟨S4x4, .i1⟩
  | .hbm, ⟨87, _⟩ => ⟨S4x4, .f32⟩
  | .hbm, ⟨88, _⟩ => ⟨S32x4x32x1x64, .f32⟩
  | .hbm, ⟨89, _⟩ => ⟨S1x4x1x4x1, .f32⟩
  | .hbm, ⟨90, _⟩ => ⟨S32x4x32x4x64, .f32⟩
  | .hbm, ⟨91, _⟩ => ⟨S32x4x32x4x64, .f32⟩
  | .hbm, ⟨92, _⟩ => ⟨S32x4x32x4x64, .f32⟩
  | .hbm, ⟨93, _⟩ => ⟨S32x128x256, .f32⟩
  | .hbm, ⟨94, _⟩ => ⟨S4x4, .i32⟩
  | .hbm, ⟨95, _⟩ => ⟨S4x4, .i32⟩
  | .hbm, ⟨96, _⟩ => ⟨S_, .i32⟩
  | .hbm, ⟨97, _⟩ => ⟨S4x4, .i32⟩
  | .hbm, ⟨98, _⟩ => ⟨S4x4, .i32⟩
  | .hbm, ⟨99, _⟩ => ⟨S4x4, .i1⟩
  | .hbm, ⟨100, _⟩ => ⟨S4x4, .f32⟩
  | .hbm, ⟨101, _⟩ => ⟨S32x4x32x1x64, .f32⟩
  | .hbm, ⟨102, _⟩ => ⟨S1x4x1x4x1, .f32⟩
  | .hbm, ⟨103, _⟩ => ⟨S32x4x32x4x64, .f32⟩
  | .hbm, ⟨104, _⟩ => ⟨S32x4x32x4x64, .f32⟩
  | .hbm, ⟨105, _⟩ => ⟨S32x4x32x4x64, .f32⟩
  | .hbm, ⟨106, _⟩ => ⟨S32x128x256, .f32⟩
  | .hbm, ⟨107, _⟩ => ⟨S32x1x128x256, .f32⟩
  | .hbm, ⟨108, _⟩ => ⟨S32x1x128x256, .f32⟩
  | .hbm, ⟨109, _⟩ => ⟨S32x2x128x256, .f32⟩
  | .hbm, ⟨110, _⟩ => ⟨S32x8x512, .bf16⟩
  | .hbm, ⟨111, _⟩ => ⟨S32x2x128x256, .f32⟩
  | .local _ .vmem, ⟨0, _⟩ => ⟨S2x8x1664, .f32⟩
  | .local _ .vmem, ⟨1, _⟩ => ⟨S2x8x1664, .f32⟩
  | .local _ .vmem, ⟨2, _⟩ => ⟨S8x128, .f32⟩
  | .local _ .vmem, ⟨3, _⟩ => ⟨S8x128, .f32⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S1x256, .f32⟩
  | .local _ .vmem, ⟨8, _⟩ => ⟨S1x256, .f32⟩
  | .local _ .vmem, ⟨9, _⟩ => ⟨S2x2x128x256, .f32⟩
  | .local _ .vmem, ⟨10, _⟩ => ⟨S2x2x128x256, .f32⟩
  | .local _ .vmem, ⟨11, _⟩ => ⟨S2x8x512, .bf16⟩
  | .local _ .vmem, ⟨12, _⟩ => ⟨S2x8x512, .bf16⟩
  | .local _ .vmem, ⟨13, _⟩ => ⟨S2x2x128x256, .f32⟩
  | .local _ .vmem, ⟨14, _⟩ => ⟨S2x2x128x256, .f32⟩
  | .local _ .vmem, ⟨15, _⟩ => ⟨S2x2x128x256, .f32⟩
  | _, _ => ⟨S32x8x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72_0 : Ref sig .tc := ⟨.hbm, 110, rfl⟩
abbrev main_v72_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_337 : BitVec 32 := 0#32
  let v945 : BitVec 1 := Scalar.cmpi .eq arg1 c0_i32_337
  let v946 : BitVec 32 := Scalar.extui v945
  let c0_i32_338 : BitVec 32 := 0#32
  let v947 : BitVec 1 := Scalar.cmpi .ne v946 c0_i32_338
  v947

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x2x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x8x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x2x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference6Ideal.lean ====
abbrev S32x8x1664 : Shape := ⟨3, ![32, 8, 1664]⟩
abbrev S32x4x32x64 : Shape := ⟨4, ![32, 4, 32, 64]⟩
abbrev S16x128 : Shape := ⟨2, ![16, 128]⟩
abbrev S128 : Shape := ⟨1, ![128]⟩
abbrev S64 : Shape := ⟨1, ![64]⟩
abbrev S32x8x1552 : Shape := ⟨3, ![32, 8, 1552]⟩
abbrev S32x8x128 : Shape := ⟨3, ![32, 8, 128]⟩
abbrev S32x8x256 : Shape := ⟨3, ![32, 8, 256]⟩
abbrev S32x8x16 : Shape := ⟨3, ![32, 8, 16]⟩
abbrev S8 : Shape := ⟨1, ![8]⟩
abbrev S_ : Shape := ⟨0, ![]⟩
abbrev S32x8x4x32 : Shape := ⟨4, ![32, 8, 4, 32]⟩
abbrev S15 : Shape := ⟨1, ![15]⟩
abbrev S1 : Shape := ⟨1, ![1]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x8x1x16 : Shape := ⟨4, ![1, 8, 1, 16]⟩
abbrev S32x8x4x16 : Shape := ⟨4, ![32, 8, 4, 16]⟩
abbrev S4 : Shape := ⟨1, ![4]⟩
abbrev S1x1x4x1 : Shape := ⟨4, ![1, 1, 4, 1]⟩
abbrev S32x8x4x64 : Shape := ⟨4, ![32, 8, 4, 64]⟩
abbrev S32x1x4x32 : Shape := ⟨4, ![32, 1, 4, 32]⟩
abbrev S32x4x8x8 : Shape := ⟨4, ![32, 4, 8, 8]⟩
abbrev S8x8 : Shape := ⟨2, ![8, 8]⟩
abbrev S32x4x64x8 : Shape := ⟨4, ![32, 4, 64, 8]⟩
abbrev S32x4x32 : Shape := ⟨3, ![32, 4, 32]⟩
abbrev S32x4x32x1 : Shape := ⟨4, ![32, 4, 32, 1]⟩
abbrev S32x8x4 : Shape := ⟨3, ![32, 8, 4]⟩
abbrev S32x8x4x1 : Shape := ⟨4, ![32, 8, 4, 1]⟩
abbrev S1x1x1x64 : Shape := ⟨4, ![1, 1, 1, 64]⟩
abbrev S1x1x128 : Shape := ⟨3, ![1, 1, 128]⟩
abbrev S32x1x4x32x64 : Shape := ⟨5, ![32, 1, 4, 32, 64]⟩
abbrev S32x2x4x32x64 : Shape := ⟨5, ![32, 2, 4, 32, 64]⟩
abbrev S4x4 : Shape := ⟨2, ![4, 4]⟩
abbrev S1x1x4x1x4x1 : Shape := ⟨6, ![1, 1, 4, 1, 4, 1]⟩
abbrev S32x2x4x32x1x64 : Shape := ⟨6, ![32, 2, 4, 32, 1, 64]⟩
abbrev S32x2x4x32x4x64 : Shape := ⟨6, ![32, 2, 4, 32, 4, 64]⟩
abbrev S32x8x512 : Shape := ⟨3, ![32, 8, 512]⟩
abbrev S32x2x128x256 : Shape := ⟨4, ![32, 2, 128, 256]⟩

abbrev nBuf : Space → Nat
  | .hbm => 332
  | .vmem => 0
  | .smem => 0
  | _ => 0

abbrev hbmTy0_0 (i : Nat) : BufTy := match i % 128 with
  | 0 => ⟨S32x8x1664, .f32⟩
  | 1 => ⟨S32x4x32x64, .f32⟩
  | 2 => ⟨S32x4x32x64, .f32⟩
  | 3 => ⟨S16x128, .f32⟩
  | 4 => ⟨S128, .f32⟩
  | 5 => ⟨S64, .f32⟩
  | 6 => ⟨S64, .f32⟩
  | 7 => ⟨S32x8x1552, .f32⟩
  | 8 => ⟨S32x8x128, .f32⟩
  | 9 => ⟨S32x8x128, .f32⟩
  | 10 => ⟨S32x8x256, .f32⟩
  | 11 => ⟨S32x8x256, .f32⟩
  | 12 => ⟨S32x8x128, .f32⟩
  | 13 => ⟨S32x8x128, .f32⟩
  | 14 => ⟨S32x8x256, .f32⟩
  | 15 => ⟨S32x8x256, .f32⟩
  | 16 => ⟨S32x8x16, .f32⟩
  | 17 => ⟨S8, .i32⟩
  | 18 => ⟨S_, .i32⟩
  | 19 => ⟨S8, .i32⟩
  | 20 => ⟨S8, .i32⟩
  | 21 => ⟨S32x8x4x32, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S15, .f32⟩
  | 30 => ⟨S_, .f32⟩
  | 31 => ⟨S15, .f32⟩
  | 32 => ⟨S15, .f32⟩
  | 33 => ⟨S1, .f32⟩
  | 34 => ⟨S_, .f32⟩
  | 35 => ⟨S15, .f32⟩
  | 36 => ⟨S15, .f32⟩
  | 37 => ⟨S15, .f32⟩
  | 38 => ⟨S15, .f32⟩
  | 39 => ⟨S1, .f32⟩
  | 40 => ⟨S15, .f32⟩
  | 41 => ⟨S15, .f32⟩
  | 42 => ⟨S15, .f32⟩
  | 43 => ⟨S1, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S8, .f32⟩
  | 52 => ⟨S8x1, .f32⟩
  | 53 => ⟨S1x16, .f32⟩
  | 54 => ⟨S8x16, .f32⟩
  | 55 => ⟨S8x16, .f32⟩
  | 56 => ⟨S8x16, .f32⟩
  | 57 => ⟨S8x16, .f32⟩
  | 58 => ⟨S1x8x1x16, .f32⟩
  | 59 => ⟨S8x16, .f32⟩
  | 60 => ⟨S1x8x1x16, .f32⟩
  | 61 => ⟨S32x8x4x16, .f32⟩
  | 62 => ⟨S32x8x4x16, .f32⟩
  | 63 => ⟨S32x8x4x16, .f32⟩
  | 64 => ⟨S32x8x4x16, .f32⟩
  | 65 => ⟨S32x8x4x16, .f32⟩
  | 66 => ⟨S32x8x4x16, .f32⟩
  | 67 => ⟨S32x8x4x16, .f32⟩
  | 68 => ⟨S32x8x4x16, .f32⟩
  | 69 => ⟨S32x8x4x16, .f32⟩
  | 70 => ⟨S32x8x4x16, .f32⟩
  | 71 => ⟨S32x8x4x16, .f32⟩
  | 72 => ⟨S32x8x4x16, .f32⟩
  | 73 => ⟨S32x8x4x32, .f32⟩
  | 74 => ⟨S32x8x4x32, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S15, .f32⟩
  | 83 => ⟨S_, .f32⟩
  | 84 => ⟨S15, .f32⟩
  | 85 => ⟨S15, .f32⟩
  | 86 => ⟨S1, .f32⟩
  | 87 => ⟨S_, .f32⟩
  | 88 => ⟨S15, .f32⟩
  | 89 => ⟨S15, .f32⟩
  | 90 => ⟨S15, .f32⟩
  | 91 => ⟨S15, .f32⟩
  | 92 => ⟨S1, .f32⟩
  | 93 => ⟨S15, .f32⟩
  | 94 => ⟨S15, .f32⟩
  | 95 => ⟨S15, .f32⟩
  | 96 => ⟨S1, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S8, .f32⟩
  | 105 => ⟨S8x1, .f32⟩
  | 106 => ⟨S1x16, .f32⟩
  | 107 => ⟨S8x16, .f32⟩
  | 108 => ⟨S8x16, .f32⟩
  | 109 => ⟨S8x16, .f32⟩
  | 110 => ⟨S8x16, .f32⟩
  | 111 => ⟨S1x8x1x16, .f32⟩
  | 112 => ⟨S8x16, .f32⟩
  | 113 => ⟨S1x8x1x16, .f32⟩
  | 114 => ⟨S32x8x4x16, .f32⟩
  | 115 => ⟨S32x8x4x16, .f32⟩
  | 116 => ⟨S32x8x4x16, .f32⟩
  | 117 => ⟨S32x8x4x16, .f32⟩
  | 118 => ⟨S32x8x4x16, .f32⟩
  | 119 => ⟨S32x8x4x16, .f32⟩
  | 120 => ⟨S32x8x4x16, .f32⟩
  | 121 => ⟨S32x8x4x16, .f32⟩
  | 122 => ⟨S32x8x4x16, .f32⟩
  | 123 => ⟨S32x8x4x16, .f32⟩
  | 124 => ⟨S32x8x4x16, .f32⟩
  | 125 => ⟨S32x8x4x16, .f32⟩
  | 126 => ⟨S32x8x4x32, .f32⟩
  | 127 => ⟨S_, .f32⟩
  | _ => ⟨S32x8x1664, .f32⟩

abbrev hbmTy0_1 (i : Nat) : BufTy := match i % 128 with
  | 0 => ⟨S32x8x4x32, .f32⟩
  | 1 => ⟨S32x8x4x32, .f32⟩
  | 2 => ⟨S4, .f32⟩
  | 3 => ⟨S_, .f32⟩
  | 4 => ⟨S4, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S1x1x4x1, .f32⟩
  | 14 => ⟨S32x8x4x32, .f32⟩
  | 15 => ⟨S32x8x4x64, .f32⟩
  | 16 => ⟨S_, .f32⟩
  | 17 => ⟨S_, .f32⟩
  | 18 => ⟨S32x8x4x32, .f32⟩
  | 19 => ⟨S32x1x4x32, .f32⟩
  | 20 => ⟨S32x8x4x32, .f32⟩
  | 21 => ⟨S32x8x4x32, .f32⟩
  | 22 => ⟨S32x8x4x32, .f32⟩
  | 23 => ⟨S32x8x4x32, .f32⟩
  | 24 => ⟨S32x8x4x32, .f32⟩
  | 25 => ⟨S32x4x8x8, .f32⟩
  | 26 => ⟨S_, .i1⟩
  | 27 => ⟨S8x8, .i1⟩
  | 28 => ⟨S8x8, .i32⟩
  | 29 => ⟨S_, .i32⟩
  | 30 => ⟨S8x8, .i32⟩
  | 31 => ⟨S8x8, .i32⟩
  | 32 => ⟨S8x8, .i32⟩
  | 33 => ⟨S8x8, .i1⟩
  | 34 => ⟨S_, .i1⟩
  | 35 => ⟨S8x8, .i1⟩
  | 36 => ⟨S8x8, .i1⟩
  | 37 => ⟨S_, .f32⟩
  | 38 => ⟨S_, .f32⟩
  | 39 => ⟨S32x4x8x8, .i1⟩
  | 40 => ⟨S32x4x8x8, .f32⟩
  | 41 => ⟨S32x4x8x8, .f32⟩
  | 42 => ⟨S32x4x64x8, .f32⟩
  | 43 => ⟨S32x8x4x64, .f32⟩
  | 44 => ⟨S32x8x4x32, .f32⟩
  | 45 => ⟨S32x8x4x32, .f32⟩
  | 46 => ⟨S32x8x4x32, .f32⟩
  | 47 => ⟨S32x8x4x32, .f32⟩
  | 48 => ⟨S32x4x32x64, .f32⟩
  | 49 => ⟨S32x4x32, .f32⟩
  | 50 => ⟨S32x4x32, .f32⟩
  | 51 => ⟨S32x4x32x1, .f32⟩
  | 52 => ⟨S32x4x32x64, .f32⟩
  | 53 => ⟨S32x4x32x64, .f32⟩
  | 54 => ⟨S32x4x32x64, .f32⟩
  | 55 => ⟨S32x4x64x8, .f32⟩
  | 56 => ⟨S32x8x4x64, .f32⟩
  | 57 => ⟨S32x8x4x64, .f32⟩
  | 58 => ⟨S32x8x4x64, .f32⟩
  | 59 => ⟨S_, .f32⟩
  | 60 => ⟨S32x8x4, .f32⟩
  | 61 => ⟨S32x8x4x1, .f32⟩
  | 62 => ⟨S_, .f32⟩
  | 63 => ⟨S32x8x4x1, .f32⟩
  | 64 => ⟨S32x8x4x1, .f32⟩
  | 65 => ⟨S_, .f32⟩
  | 66 => ⟨S32x8x4x1, .f32⟩
  | 67 => ⟨S32x8x4x1, .f32⟩
  | 68 => ⟨S32x8x4x1, .f32⟩
  | 69 => ⟨S32x8x4x64, .f32⟩
  | 70 => ⟨S32x8x4x64, .f32⟩
  | 71 => ⟨S1x1x1x64, .f32⟩
  | 72 => ⟨S32x8x4x64, .f32⟩
  | 73 => ⟨S32x8x4x64, .f32⟩
  | 74 => ⟨S32x8x256, .f32⟩
  | 75 => ⟨S32x8x256, .f32⟩
  | 76 => ⟨S32x8x256, .f32⟩
  | 77 => ⟨S_, .f32⟩
  | 78 => ⟨S32x8x256, .f32⟩
  | 79 => ⟨S32x8x256, .f32⟩
  | 80 => ⟨S_, .f32⟩
  | 81 => ⟨S32x8x256, .f32⟩
  | 82 => ⟨S32x8x256, .f32⟩
  | 83 => ⟨S32x8x256, .f32⟩
  | 84 => ⟨S32x8x256, .f32⟩
  | 85 => ⟨S32x8x128, .f32⟩
  | 86 => ⟨S1x1x128, .f32⟩
  | 87 => ⟨S32x8x128, .f32⟩
  | 88 => ⟨S32x8x128, .f32⟩
  | 89 => ⟨S32x8x128, .f32⟩
  | 90 => ⟨S_, .f32⟩
  | 91 => ⟨S32x8x128, .f32⟩
  | 92 => ⟨S32x8x128, .f32⟩
  | 93 => ⟨S32x8x128, .f32⟩
  | 94 => ⟨S32x8x128, .f32⟩
  | 95 => ⟨S32x8x128, .i1⟩
  | 96 => ⟨S32x8x128, .f32⟩
  | 97 => ⟨S32x8x128, .f32⟩
  | 98 => ⟨S32x8x128, .f32⟩
  | 99 => ⟨S32x8x128, .f32⟩
  | 100 => ⟨S32x8x128, .f32⟩
  | 101 => ⟨S32x8x128, .f32⟩
  | 102 => ⟨S32x8x128, .f32⟩
  | 103 => ⟨S32x8x128, .f32⟩
  | 104 => ⟨S32x8x128, .f32⟩
  | 105 => ⟨S_, .f32⟩
  | 106 => ⟨S32x8x128, .f32⟩
  | 107 => ⟨S32x8x128, .f32⟩
  | 108 => ⟨S32x8x4x32, .f32⟩
  | 109 => ⟨S32x8x4x32, .f32⟩
  | 110 => ⟨S_, .f32⟩
  | 111 => ⟨S32x8x4x32, .f32⟩
  | 112 => ⟨S32x8x4x32, .f32⟩
  | 113 => ⟨S32x8x4x32, .f32⟩
  | 114 => ⟨S32x8x4x64, .f32⟩
  | 115 => ⟨S_, .f32⟩
  | 116 => ⟨S_, .f32⟩
  | 117 => ⟨S32x8x4x32, .f32⟩
  | 118 => ⟨S32x1x4x32, .f32⟩
  | 119 => ⟨S32x8x4x32, .f32⟩
  | 120 => ⟨S32x8x4x32, .f32⟩
  | 121 => ⟨S32x8x4x32, .f32⟩
  | 122 => ⟨S32x8x4x32, .f32⟩
  | 123 => ⟨S32x8x4x32, .f32⟩
  | 124 => ⟨S32x4x8x8, .f32⟩
  | 125 => ⟨S_, .i1⟩
  | 126 => ⟨S8x8, .i1⟩
  | 127 => ⟨S8x8, .i32⟩
  | _ => ⟨S32x8x1664, .f32⟩

abbrev hbmTy0_2 (i : Nat) : BufTy := match i % 128 with
  | 0 => ⟨S_, .i32⟩
  | 1 => ⟨S8x8, .i32⟩
  | 2 => ⟨S8x8, .i32⟩
  | 3 => ⟨S8x8, .i32⟩
  | 4 => ⟨S8x8, .i1⟩
  | 5 => ⟨S_, .i1⟩
  | 6 => ⟨S8x8, .i1⟩
  | 7 => ⟨S8x8, .i1⟩
  | 8 => ⟨S_, .f32⟩
  | 9 => ⟨S_, .f32⟩
  | 10 => ⟨S32x4x8x8, .i1⟩
  | 11 => ⟨S32x4x8x8, .f32⟩
  | 12 => ⟨S32x4x8x8, .f32⟩
  | 13 => ⟨S32x4x64x8, .f32⟩
  | 14 => ⟨S32x8x4x64, .f32⟩
  | 15 => ⟨S32x8x4x32, .f32⟩
  | 16 => ⟨S32x8x4x32, .f32⟩
  | 17 => ⟨S32x8x4x32, .f32⟩
  | 18 => ⟨S32x8x4x32, .f32⟩
  | 19 => ⟨S32x4x32x64, .f32⟩
  | 20 => ⟨S32x4x32, .f32⟩
  | 21 => ⟨S32x4x32, .f32⟩
  | 22 => ⟨S32x4x32x1, .f32⟩
  | 23 => ⟨S32x4x32x64, .f32⟩
  | 24 => ⟨S32x4x32x64, .f32⟩
  | 25 => ⟨S32x4x32x64, .f32⟩
  | 26 => ⟨S32x4x64x8, .f32⟩
  | 27 => ⟨S32x8x4x64, .f32⟩
  | 28 => ⟨S32x8x4x64, .f32⟩
  | 29 => ⟨S32x8x4x64, .f32⟩
  | 30 => ⟨S_, .f32⟩
  | 31 => ⟨S32x8x4, .f32⟩
  | 32 => ⟨S32x8x4x1, .f32⟩
  | 33 => ⟨S_, .f32⟩
  | 34 => ⟨S32x8x4x1, .f32⟩
  | 35 => ⟨S32x8x4x1, .f32⟩
  | 36 => ⟨S_, .f32⟩
  | 37 => ⟨S32x8x4x1, .f32⟩
  | 38 => ⟨S32x8x4x1, .f32⟩
  | 39 => ⟨S32x8x4x1, .f32⟩
  | 40 => ⟨S32x8x4x64, .f32⟩
  | 41 => ⟨S32x8x4x64, .f32⟩
  | 42 => ⟨S1x1x1x64, .f32⟩
  | 43 => ⟨S32x8x4x64, .f32⟩
  | 44 => ⟨S32x8x4x64, .f32⟩
  | 45 => ⟨S32x8x256, .f32⟩
  | 46 => ⟨S32x8x256, .f32⟩
  | 47 => ⟨S32x8x256, .f32⟩
  | 48 => ⟨S_, .f32⟩
  | 49 => ⟨S32x8x256, .f32⟩
  | 50 => ⟨S32x8x256, .f32⟩
  | 51 => ⟨S_, .f32⟩
  | 52 => ⟨S32x8x256, .f32⟩
  | 53 => ⟨S32x8x256, .f32⟩
  | 54 => ⟨S32x8x256, .f32⟩
  | 55 => ⟨S32x8x256, .f32⟩
  | 56 => ⟨S32x1x4x32x64, .f32⟩
  | 57 => ⟨S32x1x4x32x64, .f32⟩
  | 58 => ⟨S32x2x4x32x64, .f32⟩
  | 59 => ⟨S4x4, .i32⟩
  | 60 => ⟨S4x4, .i32⟩
  | 61 => ⟨S_, .i32⟩
  | 62 => ⟨S4x4, .i32⟩
  | 63 => ⟨S4x4, .i32⟩
  | 64 => ⟨S4x4, .i1⟩
  | 65 => ⟨S1x1x4x1x4x1, .i1⟩
  | 66 => ⟨S32x2x4x32x1x64, .f32⟩
  | 67 => ⟨S_, .f32⟩
  | 68 => ⟨S_, .f32⟩
  | 69 => ⟨S32x2x4x32x4x64, .i1⟩
  | 70 => ⟨S32x2x4x32x4x64, .f32⟩
  | 71 => ⟨S32x2x4x32x4x64, .f32⟩
  | 72 => ⟨S32x2x4x32x4x64, .f32⟩
  | 73 => ⟨S32x8x512, .f32⟩
  | 74 => ⟨S32x8x512, .bf16⟩
  | 75 => ⟨S32x2x128x256, .f32⟩
  | _ => ⟨S32x8x1664, .f32⟩

abbrev hbmTy (i : Nat) : BufTy := match i / 128 with
  | 0 => hbmTy0_0 i
  | 1 => hbmTy0_1 i
  | 2 => hbmTy0_2 i
  | _ => ⟨S32x8x1664, .f32⟩

abbrev bufTy : (tb : Table) → Fin (tcTables nBuf tb) → BufTy
  | .hbm, ⟨i, _⟩ => hbmTy i
  | _, _ => ⟨S32x8x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_cst_0 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_3 : Ref sig .tc := ⟨.hbm, 75, rfl⟩
abbrev main_cst_4 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_cst : Ref sig .tc := ⟨.hbm, 80, rfl⟩
abbrev main_call1_v3 : Ref sig .tc := ⟨.hbm, 81, rfl⟩
abbrev main_call1_v4 : Ref sig .tc := ⟨.hbm, 82, rfl⟩
abbrev main_call1_cst_0 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_v15 : Ref sig .tc := ⟨.hbm, 95, rfl⟩
abbrev main_call1_v16 : Ref sig .tc := ⟨.hbm, 96, rfl⟩
abbrev main_v43 : Ref sig .tc := ⟨.hbm, 97, rfl⟩
abbrev main_cst_5 : Ref sig .tc := ⟨.hbm, 98, rfl⟩
abbrev main_v44 : Ref sig .tc := ⟨.hbm, 99, rfl⟩
abbrev main_v45 : Ref sig .tc := ⟨.hbm, 100, rfl⟩
abbrev main_cst_6 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_7 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_8 : Ref sig .tc := ⟨.hbm, 131, rfl⟩
abbrev main_v74 : Ref sig .tc := ⟨.hbm, 132, rfl⟩
abbrev main_v75 : Ref sig .tc := ⟨.hbm, 133, rfl⟩
abbrev main_cst_9 : Ref sig .tc := ⟨.hbm, 134, rfl⟩
abbrev main_v76 : Ref sig .tc := ⟨.hbm, 135, rfl⟩
abbrev main_v77 : Ref sig .tc := ⟨.hbm, 136, rfl⟩
abbrev main_cst_10 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_call2_call0_cst : Ref sig .tc := ⟨.hbm, 144, rfl⟩
abbrev main_call2_call0_v0 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_c_11 : Ref sig .tc := ⟨.hbm, 154, rfl⟩
abbrev main_v92 : Ref sig .tc := ⟨.hbm, 155, rfl⟩
abbrev main_call3_v0 : Ref sig .tc := ⟨.hbm, 156, rfl⟩
abbrev main_call3_c : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_c_0 : Ref sig .tc := ⟨.hbm, 162, rfl⟩
abbrev main_call3_v5 : Ref sig .tc := ⟨.hbm, 163, rfl⟩
abbrev main_v93 : Ref sig .tc := ⟨.hbm, 164, rfl⟩
abbrev main_cst_12 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_13 : Ref sig .tc := ⟨.hbm, 187, rfl⟩
abbrev main_v112 : Ref sig .tc := ⟨.hbm, 188, rfl⟩
abbrev main_v113 : Ref sig .tc := ⟨.hbm, 189, rfl⟩
abbrev main_cst_14 : Ref sig .tc := ⟨.hbm, 190, rfl⟩
abbrev main_v114 : Ref sig .tc := ⟨.hbm, 191, rfl⟩
abbrev main_v115 : Ref sig .tc := ⟨.hbm, 192, rfl⟩
abbrev main_cst_15 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_call5_v0 : Ref sig .tc := ⟨.hbm, 203, rfl⟩
abbrev main_call5_v1 : Ref sig .tc := ⟨.hbm, 204, rfl⟩
abbrev main_call5_cst : Ref sig .tc := ⟨.hbm, 205, rfl⟩
abbrev main_call5_v2 : Ref sig .tc := ⟨.hbm, 206, rfl⟩
abbrev main_call5_v3 : Ref sig .tc := ⟨.hbm, 207, rfl⟩
abbrev main_call5_cst_0 : Ref sig .tc := ⟨.hbm, 208, rfl⟩
abbrev main_call5_v4 : Ref sig .tc := ⟨.hbm, 209, rfl⟩
abbrev main_call5_v5 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_call6_v0 : Ref sig .tc := ⟨.hbm, 217, rfl⟩
abbrev main_call6_call0_cst : Ref sig .tc := ⟨.hbm, 218, rfl⟩
abbrev main_call6_call0_v0 : Ref sig .tc := ⟨.hbm, 219, rfl⟩
abbrev main_call6_call0_v1 : Ref sig .tc := ⟨.hbm, 220, rfl⟩
abbrev main_call6_call0_v2 : Ref sig .tc := ⟨.hbm, 221, rfl⟩
abbrev main_call6_call0_v3 : Ref sig .tc := ⟨.hbm, 222, rfl⟩
abbrev main_call6_call0_v4 : Ref sig .tc := ⟨.hbm, 223, rfl⟩
abbrev main_call6_call0_v5 : Ref sig .tc := ⟨.hbm, 224, rfl⟩
abbrev main_call6_call0_v6 : Ref sig .tc := ⟨.hbm, 225, rfl⟩
abbrev main_call6_call0_v7 : Ref sig .tc := ⟨.hbm, 226, rfl⟩
abbrev main_call6_call0_v8 : Ref sig .tc := ⟨.hbm, 227, rfl⟩
abbrev main_call6_call0_v9 : Ref sig .tc := ⟨.hbm, 228, rfl⟩
abbrev main_call6_call0_v10 : Ref sig .tc := ⟨.hbm, 229, rfl⟩
abbrev main_call6_call0_v11 : Ref sig .tc := ⟨.hbm, 230, rfl⟩
abbrev main_call6_v1 : Ref sig .tc := ⟨.hbm, 231, rfl⟩
abbrev main_v131 : Ref sig .tc := ⟨.hbm, 232, rfl⟩
abbrev main_cst_16 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_cst_17 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_call7_call0_cst : Ref sig .tc := ⟨.hbm, 243, rfl⟩
abbrev main_call7_call0_v0 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_c_18 : Ref sig .tc := ⟨.hbm, 253, rfl⟩
abbrev main_v148 : Ref sig .tc := ⟨.hbm, 254, rfl⟩
abbrev main_call8_v0 : Ref sig .tc := ⟨.hbm, 255, rfl⟩
abbrev main_call8_c : Ref sig .tc := ⟨.hbm, 256, rfl⟩
abbrev main_call8_v1 : Ref sig .tc := ⟨.hbm, 257, rfl⟩
abbrev main_call8_v2 : Ref sig .tc := ⟨.hbm, 258, rfl⟩
abbrev main_call8_v3 : Ref sig .tc := ⟨.hbm, 259, rfl⟩
abbrev main_call8_v4 : Ref sig .tc := ⟨.hbm, 260, rfl⟩
abbrev main_call8_c_0 : Ref sig .tc := ⟨.hbm, 261, rfl⟩
abbrev main_call8_v5 : Ref sig .tc := ⟨.hbm, 262, rfl⟩
abbrev main_v149 : Ref sig .tc := ⟨.hbm, 263, rfl⟩
abbrev main_cst_19 : Ref sig .tc := ⟨.hbm, 264, rfl⟩
abbrev main_call9_v0 : Ref sig .tc := ⟨.hbm, 265, rfl⟩
abbrev main_call9_v1 : Ref sig .tc := ⟨.hbm, 266, rfl⟩
abbrev main_call9_v2 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_cst_20 : Ref sig .tc := ⟨.hbm, 286, rfl⟩
abbrev main_v168 : Ref sig .tc := ⟨.hbm, 287, rfl⟩
abbrev main_v169 : Ref sig .tc := ⟨.hbm, 288, rfl⟩
abbrev main_cst_21 : Ref sig .tc := ⟨.hbm, 289, rfl⟩
abbrev main_v170 : Ref sig .tc := ⟨.hbm, 290, rfl⟩
abbrev main_v171 : Ref sig .tc := ⟨.hbm, 291, rfl⟩
abbrev main_cst_22 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_call10_v0 : Ref sig .tc := ⟨.hbm, 302, rfl⟩
abbrev main_call10_v1 : Ref sig .tc := ⟨.hbm, 303, rfl⟩
abbrev main_call10_cst : Ref sig .tc := ⟨.hbm, 304, rfl⟩
abbrev main_call10_v2 : Ref sig .tc := ⟨.hbm, 305, rfl⟩
abbrev main_call10_v3 : Ref sig .tc := ⟨.hbm, 306, rfl⟩
abbrev main_call10_cst_0 : Ref sig .tc := ⟨.hbm, 307, rfl⟩
abbrev main_call10_v4 : Ref sig .tc := ⟨.hbm, 308, rfl⟩
abbrev main_call10_v5 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_c_23 : Ref sig .tc := ⟨.hbm, 317, rfl⟩
abbrev main_v188 : Ref sig .tc := ⟨.hbm, 318, rfl⟩
abbrev main_v189 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_cst_24 : Ref sig .tc := ⟨.hbm, 323, rfl⟩
abbrev main_call11_v0 : Ref sig .tc := ⟨.hbm, 324, rfl⟩
abbrev main_call11_v1 : Ref sig .tc := ⟨.hbm, 325, rfl⟩
abbrev main_call11_v2 : Ref sig .tc := ⟨.hbm, 326, rfl⟩
abbrev main_call11_v3 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩

abbrev nD : Nat := 1
abbrev τ : Topo := Topo.v7x

variable {F : FTy → Type} [FloatOps F]
-- ==== Proof.LinMasks.lean ====
/- The masks by which the recurrences' kernel tells heads and rows apart, as plain arithmetic on positions. -/
module

public import proofs.«01_k».proof.Proof.Gen.Kernel6Ideal.Skeleton
public import Idealize.ShloMosaic.Lib.Pipeline.ValueKit

@[expose] public section

set_option maxRecDepth 16384

noncomputable section

namespace Cert.Proof.LinMasks

open Idealize.ShloMosaic Idealize.ShloMosaic.TcCoe Idealize.SL.Sem
open Cert.Kernel6Ideal Cert.Kernel6Ideal.Gen

/-- Which of the four heads a key column belongs to, as the kernel computes it. -/
abbrev headK : IVec S1x128 32 := Gen.k0_pay9 Gen.k0_pay7 Gen.k0_pay8 1#32

/-- Key column `x` belongs to head `x / 32`. -/
theorem headK_at : ∀ x : Fin 128, headK (ix2 0 x) = BitVec.ofNat 32 (x.val / 32) := by
  decide +kernel

/-- Value column `y` belongs to head `y / 64`. -/
theorem headV_at : ∀ y : Fin 256, Gen.k0_pay10 (ix2 0 y) = BitVec.ofNat 32 (y.val / 64) := by
  decide +kernel

/-- Row `i` sees row `j` when `j` is not after it. -/
theorem tril_at : ∀ i j : Fin 8, Gen.k0_pay4 (ix2 i j) = if j.val ≤ i.val then 1#1 else 0#1 := by
  decide +kernel

/-- All eight rows are one chunk. -/
theorem same_at : ∀ i j : Fin 8, Gen.k0_pay3 (ix2 i j) = 1#1 := by
  decide +kernel

/-- The kernel's mask of the first half of each head's key columns. -/
abbrev first : IVec S1x128 1 := Gen.k0_pay19 32#32 Gen.k0_pay18 0#32

/-- Column `x` is in the first half of its head when `x % 32 < 16`. -/
theorem first_at : ∀ x : Fin 128, first (ix2 0 x) = if x.val % 32 < 16 then 1#1 else 0#1 := by
  decide +kernel

/-- A choice by a bit that holds a proposition is a choice by the proposition. -/
theorem sel_ite {α : Type} (p : Prop) [Decidable p] (a b : α) : Scalar.select (if p then 1#1 else 0#1) a b = if p then a else b := by
  split <;> rfl

/-- A choice by equality of two head numbers, computed on 32-bit words, is a choice by equality of the numbers. -/
theorem sel_head {α : Type} (n k : Nat) (hn : n < 4) (hk : k < 4) (a b : α) :
    Scalar.select (IntOp.cmpi CmpIPredicate.eq (BitVec.ofNat 32 n) (BitVec.ofNat 32 k)) a b = if n = k then a else b := by
  rw [← sel_ite]
  congr 1
  interval_cases n <;> interval_cases k <;> rfl

/-- The kernel's mask of the blocks on the diagonal of a state. -/
abbrev diag : IVec S128x256 1 := Gen.k0_pay14 Gen.k0_pay11 Gen.k0_pay12 Gen.k0_pay13 0#32

/-- A key column and a value column are in one block when they belong to one head. -/
theorem diag_at (i : Fin 128) (j : Fin 256) : diag (ix2 i j) = if i.val / 32 = j.val / 64 then 1#1 else 0#1 := by
  have hk : ∀ i : Fin 128, (Gen.k0_pay14 Gen.k0_pay11 Gen.k0_pay12 Gen.k0_pay13 0#32 (ix2 i 0) = 1#1) = (i.val / 32 = 0) := by decide +kernel
  pointwise [diag, Gen.k0_pay14, Gen.k0_pay11, Gen.k0_pay12, Gen.k0_pay13]
  generalize hA : Scalar.select (IntOp.andi (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32))) _) _) _ _ = A
  generalize hB : Scalar.select (IntOp.andi (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32))) _) _) _ _ = B
  have eA : A = BitVec.ofNat 32 (i.val / 32) := by
    rw [← hA]; clear hA hB; revert i; decide +kernel
  have eB : B = BitVec.ofNat 32 (j.val / 64) := by
    rw [← hB]; clear hA hB; revert j; decide +kernel
  rw [eA, eB]
  have h1 : i.val / 32 < 4 := by omega
  have h2 : j.val / 64 < 4 := by omega
  generalize i.val / 32 = a at *
  generalize j.val / 64 = b at *
  interval_cases a <;> interval_cases b <;> rfl

/-- The matrix by which the kernel takes the mean over a head's value columns. -/
abbrev meanV : FVec Ideal S256x256 .bf16 :=
  Gen.k0_pay17 (F := Ideal) (iota .tc S256x256 32 [0] iota_S256x256_d0_w32) 64#32 Gen.k0_pay15 Gen.k0_pay16
    (Scalar.subi (Scalar.extui (Scalar.cmpi .sgt 64#32 0#32)) (Scalar.extui (Scalar.cmpi .slt 64#32 0#32)))

/-- It holds the word of a sixty-fourth between columns of one head, and zero elsewhere. -/
theorem meanV_at (x y : Fin 256) : meanV (ix2 x y) = if x.val / 64 = y.val / 64 then Ideal.ofBits .f32 1015021568#32 else 0 := by
  pointwise [meanV, Gen.k0_pay17, Gen.k0_pay15, Gen.k0_pay16]
  generalize hA : Scalar.select (IntOp.andi (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32))) _) _) _ _ = A
  generalize hB : Scalar.select (IntOp.andi (IntOp.cmpi CmpIPredicate.ne
            (IntOp.subi (BitVec.setWidth 32 (IntOp.cmpi CmpIPredicate.sgt (BitVec.ofNat 32 y.val) 0#32))
              (BitVec.setWidth 32 (IntOp.cmpi CmpIPredicate.slt (BitVec.ofNat 32 y.val) 0#32))) _) _) _ _ = B
  have eA : A = BitVec.ofNat 32 (x.val / 64) := by
    rw [← hA]; clear hA hB; revert x; decide +kernel
  have eB : B = BitVec.ofNat 32 (y.val / 64) := by
    rw [← hB]; clear hA hB; revert y; decide +kernel
  rw [eA, eB, sel_head _ _ (by omega) (by omega)]

end Cert.Proof.LinMasks

end
-- ==== Proof.LinGroup.lean ====
/- One of the two recurrences on one sequence: the kernel's tensors for scores, read-out and state, read at an index. -/
module

public import proofs.«01_k».proof.Proof.Gen.Kernel6Ideal.Skeleton
public import proofs.«01_k».proof.Proof.LinMasks
public import Idealize.ShloMosaic.Lib.Pipeline.ValueKit

@[expose] public section

set_option maxRecDepth 16384

noncomputable section

namespace Cert.Proof.LinGroup

open Idealize.ShloMosaic Idealize.ShloMosaic.TcCoe Idealize.SL.Sem
open Cert.Kernel6Ideal Cert.Kernel6Ideal.Gen
open Cert.Proof.LinMasks

set_option maxHeartbeats 1000000 in
/-- The four heads' masked scores, stacked below one another, times the values: row `8 h + i` holds, for head `h`, the
    sum over the rows `j` that row `i` sees of the score of `i` and `j` within head `h` times value `j`. -/
theorem pv_at (tril : IVec S8x8 1) (headK : IVec S1x128 32) (qd : FVec Ideal S8x128 .f32) (ki : FVec Ideal S8x128 .bf16)
  (vb : FVec Ideal S8x256 .bf16)
  (ht : ∀ i j : Fin 8, tril (ix2 i j) = if j.val ≤ i.val then 1#1 else 0#1)
  (hK : ∀ x : Fin 128, headK (ix2 0 x) = BitVec.ofNat 32 (x.val / 32)) (r : Fin 32) (i : Fin 8) (h : Nat) (hh : h < 4) (hr : r.val = 8 * h + i.val) (y : Fin 256) (z : EReal) (hz : z = 0) :
   Gen.k0_pay37 (F := Ideal) tril headK qd ki vb z (Gen.k0_pay36 headK) (ix2 r y)
    = ∑ j : Fin 8, (if j.val ≤ i.val then (∑ x : Fin 128, (if x.val / 32 = h then qd (ix2 i x) else 0) * ki (ix2 j x) : EReal) else 0) * vb (ix2 j y) := by
  subst hz
  pointwise [Gen.k0_pay37, Gen.k0_pay36]
  have e0 : ∀ x : Fin 128, x.val / 32 < 4 := fun x => by omega
  have s : ∀ (k : Nat) (hk : k < 4) (x : Fin 128) (a : EReal), Scalar.select (IntOp.cmpi CmpIPredicate.eq (headK (ix2 0 x)) (BitVec.ofNat 32 k)) a 0 = if x.val / 32 = k then a else 0 :=
    fun k hk x a => by rw [hK]; exact sel_head _ k (e0 x) hk a 0
  have s0 := s 0 (by omega)
  have s1 := s 1 (by omega)
  have s2 := s 2 (by omega)
  have s3 := s 3 (by omega)
  clear s hK e0
  have hc : h = 0 ∨ h = 1 ∨ h = 2 ∨ h = 3 := by omega
  refine Finset.sum_congr rfl fun j _ => congrArg (· * vb (ix2 j y)) ?_
  rcases hc with rfl | rfl | rfl | rfl
  · have hb : r.val < 8 := by omega
    have hl : 0 ≤ r.val ∧ r.val < 8 := by omega
    have e : i = ⟨r.val, hb⟩ := Fin.ext (by show i.val = r.val; omega)
    clear hr; subst e
    rw [dif_pos (by omega), ht, sel_ite]
    refine if_congr Iff.rfl (Finset.sum_congr rfl fun x _ => congrArg (· * ki (ix2 j x)) ?_) rfl
    rw [dif_pos (by omega), s0]
  · have hb : r.val - 8 < 8 := by omega
    have hl : 8 ≤ r.val ∧ r.val < 16 := by omega
    have e : i = ⟨r.val - 8, hb⟩ := Fin.ext (by show i.val = r.val - 8; omega)
    clear hr; subst e
    rw [dif_neg (by omega), dif_pos (by omega), ht, sel_ite]
    refine if_congr Iff.rfl (Finset.sum_congr rfl fun x _ => congrArg (· * ki (ix2 j x)) ?_) rfl
    rw [dif_pos (by omega), s1]
  · have hb : r.val - 8 - 8 < 8 := by omega
    have hl : 16 ≤ r.val ∧ r.val < 24 := by omega
    have e : i = ⟨r.val - 8 - 8, hb⟩ := Fin.ext (by show i.val = r.val - 8 - 8; omega)
    clear hr; subst e
    rw [dif_neg (by omega), dif_neg (by omega), dif_pos (by omega), ht, sel_ite]
    refine if_congr Iff.rfl (Finset.sum_congr rfl fun x _ => congrArg (· * ki (ix2 j x)) ?_) rfl
    rw [dif_neg (by omega), dif_neg (by omega), dif_pos (by omega), s2]
    simp only [show 16 + (r.val - 8 - 8) - 8 - 8 = r.val - 8 - 8 from by omega]
  · have hb : r.val - 8 - 8 - 8 < 8 := by omega
    have hl : 24 ≤ r.val ∧ r.val < 32 := by omega
    have e : i = ⟨r.val - 8 - 8 - 8, hb⟩ := Fin.ext (by show i.val = r.val - 8 - 8 - 8; omega)
    clear hr; subst e
    rw [dif_neg (by omega), dif_neg (by omega), dif_neg (by omega), ht, sel_ite]
    refine if_congr Iff.rfl (Finset.sum_congr rfl fun x _ => congrArg (· * ki (ix2 j x)) ?_) rfl
    rw [dif_neg (by omega), dif_neg (by omega), dif_neg (by omega), s3]
    simp only [show 24 + (r.val - 8 - 8 - 8) - 8 - 8 - 8 = r.val - 8 - 8 - 8 from by omega]

section
variable {F : FTy → Type} [FloatOps F]

/-- What one recurrence reads out for its eight rows: within the chunk and from the state before it. -/
abbrev read (tril : IVec S8x8 1) (headK : IVec S1x128 32) (headV : IVec S1x256 32) (qd : FVec F S8x128 .f32) (ki : FVec F S8x128 .bf16)
    (vb : FVec F S8x256 .bf16) (s : FVec F S1x1x128x256 .f32) : FVec F S8x256 .f32 :=
  Gen.k0_pay41 headV qd (Gen.k0_pay37 tril headK qd ki vb (FloatOps.ofBits .f32 0#32) (Gen.k0_pay36 headK))
    (Gen.k0_pay38 tril headK headV qd ki vb (FloatOps.ofBits .f32 0#32) (Gen.k0_pay36 headK)) s

end

/-- The read-out at row `i` and value column `y`: over the rows `j` up to `i`, the score within the column's head times
    value `j`, and the query times the state before the chunk. -/
theorem read_at (tril : IVec S8x8 1) (headK : IVec S1x128 32) (headV : IVec S1x256 32) (qd : FVec Ideal S8x128 .f32)
    (ki : FVec Ideal S8x128 .bf16) (vb : FVec Ideal S8x256 .bf16) (s : FVec Ideal S1x1x128x256 .f32)
    (ht : ∀ i j : Fin 8, tril (ix2 i j) = if j.val ≤ i.val then 1#1 else 0#1)
    (hK : ∀ x : Fin 128, headK (ix2 0 x) = BitVec.ofNat 32 (x.val / 32))
    (hV : ∀ y : Fin 256, headV (ix2 0 y) = BitVec.ofNat 32 (y.val / 64)) (i : Fin 8) (y : Fin 256) :
    read tril headK headV qd ki vb s (ix2 i y)
      = (∑ j : Fin 8, (if j.val ≤ i.val then (∑ x : Fin 128, (if x.val / 32 = y.val / 64 then qd (ix2 i x) else 0) * ki (ix2 j x) : EReal) else 0) * vb (ix2 j y))
        + ∑ x : Fin 128, qd (ix2 i x) * s (ix4 0 0 x y) := by
  have hy : y.val / 64 < 4 := by omega
  have sv : ∀ (k : Nat) (hk : k < 4) (a : EReal), Scalar.select (IntOp.cmpi CmpIPredicate.eq (headV (ix2 0 y)) (BitVec.ofNat 32 k)) a 0 = if y.val / 64 = k then a else 0 :=
    fun k hk a => by rw [hV]; exact sel_head _ k hy hk a 0
  have s0 := sv 0 (by omega)
  have s1 := sv 1 (by omega)
  have s2 := sv 2 (by omega)
  have s3 := sv 3 (by omega)
  pointwise [read, Gen.k0_pay41, Gen.k0_pay39, Gen.k0_pay38]
  rw [s0, s1, s2, s3,
    pv_at tril headK qd ki vb ht hK _ i 0 (by omega) (by simp) y 0 rfl,
    pv_at tril headK qd ki vb ht hK _ i 1 (by omega) (by simp) y 0 rfl,
    pv_at tril headK qd ki vb ht hK _ i 2 (by omega) (by simp) y 0 rfl,
    pv_at tril headK qd ki vb ht hK _ i 3 (by omega) (by simp) y 0 rfl]
  generalize y.val / 64 = h at *
  congr 1
  clear s0 s1 s2 s3 sv
  interval_cases h
  all_goals simp only [OfNat.ofNat_ne_zero, OfNat.ofNat_ne_one, OfNat.one_ne_ofNat, OfNat.zero_ne_ofNat, zero_ne_one, one_ne_zero, Nat.reduceEqDiff, if_true, if_false, ↓reduceIte, add_zero, zero_add]

/-- The state after the chunk at key column `x` and value column `y`: the state before it, decayed, and, where the two
    columns belong to one head, the keys times the values. -/
theorem state_at (diag : IVec S128x256 1) (kd : FVec Ideal S8x128 .f32) (et : FVec Ideal S128x8 .f32) (vb : FVec Ideal S8x256 .bf16)
    (s : FVec Ideal S1x1x128x256 .f32)
    (hd : ∀ (x : Fin 128) (y : Fin 256), diag (ix2 x y) = if x.val / 32 = y.val / 64 then 1#1 else 0#1) (x : Fin 128) (y : Fin 256) :
    Gen.k0_pay40 (F := Ideal) diag kd et vb s (ix4 0 0 x y)
      = Ideal.exp (et (ix2 x 0)) * s (ix4 0 0 x y) + if x.val / 32 = y.val / 64 then (∑ j : Fin 8, kd (ix2 j x) * vb (ix2 j y) : EReal) else 0 := by
  pointwise [Gen.k0_pay40, Gen.k0_pay39]
  rw [hd, sel_ite]

/-- The finished output at row `i` and value column `y`: the read-out divided by the root of its mean square over the
    head (taken as three products with the matrix of means), times the gain and the gate. -/
theorem out_at (hm : FVec Ideal S256x256 .bf16) (gate : FVec Ideal S8x256 .f32) (gain : FVec Ideal S1x256 .f32) (o : FVec Ideal S8x256 .f32)
    (i : Fin 8) (y : Fin 256) :
    Gen.k0_pay42 (F := Ideal) hm gate gain o (ix3 0 i y)
      = o (ix2 i y) * Ideal.rsqrt (∑ x, o (ix2 i x) * o (ix2 i x) * hm (ix2 x y)
            + ∑ x, (o (ix2 i x) * o (ix2 i x) - o (ix2 i x) * o (ix2 i x)) * hm (ix2 x y)
            + ∑ x, (o (ix2 i x) * o (ix2 i x) - o (ix2 i x) * o (ix2 i x) - (o (ix2 i x) * o (ix2 i x) - o (ix2 i x) * o (ix2 i x))) * hm (ix2 x y)
            + Ideal.ofBits .f32 897988541#32) * gain (ix2 0 y)
          * Ideal.div (gate (ix2 i y)) (1 + Ideal.exp (0 - gate (ix2 i y))) := by
  pointwise [Gen.k0_pay42]

end Cert.Proof.LinGroup

end
-- ==== Proof.LinScalars.lean ====
/- Sums and functions of extended reals that the recurrences need: sums over one head's columns, running sums, the split of a real into three parts, the logarithm of the logistic function. -/
module

public import Idealize.ShloMosaic.PureOps.Ideal.Laws
public import Mathlib.Algebra.BigOperators.Fin

@[expose] public section

noncomputable section

namespace Cert.Proof.LinScalars

open Idealize.ShloMosaic

theorem coe_sum {n : Nat} (f : Fin n → ℝ) : ((∑ j, f j : ℝ) : EReal) = ∑ j, (f j : EReal) := by
  induction n with
  | zero => rfl
  | succ n ih => rw [Fin.sum_univ_succ, Fin.sum_univ_succ, EReal.coe_add, ih]

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- An extended real that is a real. -/
def Real' (a : EReal) : Prop := ∃ r : ℝ, a = (r : EReal)

theorem real_zero : Real' 0 := ⟨0, rfl⟩

theorem real_one : Real' 1 := ⟨1, rfl⟩

theorem real_of_lt {a : EReal} (h : max a (-a) < ⊤) : Real' a := by
  induction a with
  | bot => simp at h
  | top => simp at h
  | coe r => exact ⟨r, rfl⟩

theorem Real'.add {a b : EReal} (ha : Real' a) (hb : Real' b) : Real' (a + b) := by
  obtain ⟨r, rfl⟩ := ha; obtain ⟨s, rfl⟩ := hb; exact ⟨r + s, rfl⟩

theorem Real'.sub {a b : EReal} (ha : Real' a) (hb : Real' b) : Real' (a - b) := by
  obtain ⟨r, rfl⟩ := ha; obtain ⟨s, rfl⟩ := hb; exact ⟨r - s, rfl⟩

theorem Real'.mul {a b : EReal} (ha : Real' a) (hb : Real' b) : Real' (a * b) := by
  obtain ⟨r, rfl⟩ := ha; obtain ⟨s, rfl⟩ := hb; exact ⟨r * s, rfl⟩

theorem Real'.neg {a : EReal} (ha : Real' a) : Real' (-a) := by
  obtain ⟨r, rfl⟩ := ha; exact ⟨-r, rfl⟩

theorem Real'.exp {a : EReal} (ha : Real' a) : Real' (Ideal.exp a) := by
  obtain ⟨r, rfl⟩ := ha; exact ⟨Real.exp r, rfl⟩

theorem Real'.cos {a : EReal} (ha : Real' a) : Real' (Ideal.cos a) := by
  obtain ⟨r, rfl⟩ := ha; exact ⟨Real.cos r, rfl⟩

theorem Real'.sin {a : EReal} (ha : Real' a) : Real' (Ideal.sin a) := by
  obtain ⟨r, rfl⟩ := ha; exact ⟨Real.sin r, rfl⟩

theorem Real'.ite {p : Prop} [Decidable p] {a b : EReal} (ha : Real' a) (hb : Real' b) : Real' (if p then a else b) := by
  split
  · exact ha
  · exact hb

theorem Real'.sum {n : Nat} {f : Fin n → EReal} (h : ∀ j, Real' (f j)) : Real' (∑ j, f j) := by
  choose g hg using h
  refine ⟨∑ j, g j, ?_⟩
  rw [coe_sum]
  exact Finset.sum_congr rfl fun j _ => hg j

/-- A real minus itself is zero. -/
theorem Real'.self_sub {a : EReal} (ha : Real' a) : a - a = 0 := by
  obtain ⟨r, rfl⟩ := ha
  rw [← EReal.coe_sub, sub_self, EReal.coe_zero]

/-- A sum over all columns of what one block of `w` columns holds is the sum over the block. -/
theorem sum_block (n w h : Nat) (hw : 0 < w) (hn : w * h + w ≤ n) (f : Fin n → EReal) :
    (∑ x : Fin n, if x.val / w = h then f x else 0) = ∑ d : Fin w, f ⟨w * h + d.val, by omega⟩ := by
  rw [← Finset.sum_filter]
  symm
  refine Finset.sum_bij (fun (d : Fin w) _ => (⟨w * h + d.val, by omega⟩ : Fin n)) ?_ ?_ ?_ ?_
  · intro d _
    rw [Finset.mem_filter]
    refine ⟨Finset.mem_univ _, ?_⟩
    show (w * h + d.val) / w = h
    rw [Nat.mul_add_div hw, Nat.div_eq_of_lt d.isLt, Nat.add_zero]
  · intro a _ b _ e
    have := congrArg Fin.val e
    exact Fin.ext (by simpa using this)
  · intro x hx
    rw [Finset.mem_filter] at hx
    have e := Nat.div_add_mod x.val w
    rw [hx.2] at e
    exact ⟨⟨x.val % w, Nat.mod_lt _ hw⟩, Finset.mem_univ _, Fin.ext e⟩
  · intro d _
    rfl

/-- The running sum of one real, taken `i + 1` times. -/
theorem run_const (i : Fin 8) (r : EReal) (hr : Real' r) : (((i.val : ℝ) : EReal) + 1) * r = ∑ j : Fin 8, if j.val ≤ i.val then r else 0 := by
  obtain ⟨s, rfl⟩ := hr
  have e : ∀ p : Fin 8 → Prop, ∀ [DecidablePred p], (∑ j : Fin 8, if p j then (s : EReal) else 0) = ((∑ j : Fin 8, if p j then s else 0 : ℝ) : EReal) := by
    intro p _
    rw [coe_sum]
    exact Finset.sum_congr rfl fun j _ => by split <;> rfl
  rw [e]
  have : ((((i.val : ℝ) : EReal) + 1) * (s : EReal)) = (((i.val : ℝ) + 1) * s : ℝ) := rfl
  rw [this]
  congr 1
  fin_cases i <;> simp [Fin.sum_univ_eight] <;> ring

/-- The running sum of a real log decay, taken of the number itself and of two remainders that are zero. -/
theorem run_split (t g : Fin 8 → EReal) (hg : ∀ j, Real' (g j)) (p : Fin 8 → Prop) [DecidablePred p] (ht : ∀ j, t j = if p j then 1 else 0) :
    (∑ j, t j * g j) + (∑ j, t j * (g j - g j)) + (∑ j, t j * (g j - g j - (g j - g j))) = ∑ j, if p j then g j else 0 := by
  have z : ∀ j, g j - g j = 0 := fun j => (hg j).self_sub
  simp only [z, sub_zero, mul_zero, Finset.sum_const_zero, add_zero]
  refine Finset.sum_congr rfl fun j _ => ?_
  rw [ht]
  split
  · rw [one_mul]
  · rw [zero_mul]

/-- The mean of the squares over one head of 64 columns, taken of the squares and of two remainders that are zero. -/
theorem mean (o : Fin 256 → EReal) (ho : ∀ x, Real' (o x)) (w : Fin 256 → EReal) (h : Nat) (hh : h < 4) (u s : EReal)
    (hu : u = ((1 / 64 : ℝ) : EReal)) (hs : s = ((64 : ℝ) : EReal)) (hw : ∀ x, w x = if x.val / 64 = h then u else 0) :
    (∑ x, o x * o x * w x) + (∑ x, (o x * o x - o x * o x) * w x) + (∑ x, (o x * o x - o x * o x - (o x * o x - o x * o x)) * w x)
      = Ideal.div (0 + ∑ e : Fin 64, o ⟨64 * h + e.val, by omega⟩ * o ⟨64 * h + e.val, by omega⟩) s := by
  have z : ∀ x, o x * o x - o x * o x = 0 := fun x => ((ho x).mul (ho x)).self_sub
  simp only [z, sub_zero, zero_mul, Finset.sum_const_zero, add_zero]
  have e : (∑ x, o x * o x * w x) = ∑ x : Fin 256, if x.val / 64 = h then o x * o x * u else 0 :=
    Finset.sum_congr rfl fun x _ => by
      rw [hw]
      split
      · rfl
      · rw [mul_zero]
  rw [e, sum_block 256 64 h (by omega) (by omega)]
  choose r hr using ho
  subst hu hs
  simp only [hr, zero_add]
  have n : ((64 : ℝ) : EReal) ≠ 0 := by
    intro q
    have := EReal.coe_eq_zero.mp q
    norm_num at this
  rw [Ideal.div, if_neg n, ← EReal.coe_inv]
  simp only [← EReal.coe_mul]
  rw [← coe_sum, ← coe_sum, ← EReal.coe_mul, Finset.sum_mul]
  congr 1
  exact Finset.sum_congr rfl fun x _ => by ring

/-- The logarithm of the logistic function, in the kernel's form, as a real. -/
theorem logsig_kernel (z : ℝ) : min (z : EReal) 0 - Ideal.log (1 + Ideal.exp (0 - max (z : EReal) (-(z : EReal))))
    = ((min z 0 - Real.log (1 + Real.exp (-|z|)) : ℝ) : EReal) := by
  have e : max (z : EReal) (-(z : EReal)) = ((|z| : ℝ) : EReal) := by
    rw [← EReal.coe_neg, ← coe_max]
    rfl
  have p : 0 < 1 + Real.exp (-|z|) := by positivity
  rw [e, zero_sub, ← EReal.coe_neg, Ideal.exp_coe, ← EReal.coe_one, ← EReal.coe_add, Ideal.log_coe, if_neg (not_le.mpr p), ← EReal.coe_zero, ← coe_min]
  rfl

/-- The same in the reference's form: minus the soft maximum of `-z` and zero. -/
theorem logsig_reference (z : ℝ) : -(max (-(z : EReal)) 0 + Ideal.log1p (Ideal.exp (-max (-(z : EReal) - 0) (-(-(z : EReal) - 0)))))
    = ((min z 0 - Real.log (1 + Real.exp (-|z|)) : ℝ) : EReal) := by
  have e : max (-(z : EReal) - 0) (-(-(z : EReal) - 0)) = ((|z| : ℝ) : EReal) := by
    rw [sub_zero, neg_neg, ← EReal.coe_neg, ← coe_max, max_comm]
    rfl
  have p : 0 < 1 + Real.exp (-|z|) := by positivity
  have q : max (-(z : EReal)) 0 = ((-min z 0 : ℝ) : EReal) := by
    rw [← EReal.coe_neg, ← EReal.coe_zero, ← coe_max]
    congr 1
    rw [← neg_zero, max_neg_neg, neg_zero]
  rw [Ideal.log1p, e, q, ← EReal.coe_neg, Ideal.exp_coe, ← EReal.coe_one, ← EReal.coe_add, Ideal.log_coe, if_neg (not_le.mpr p), ← EReal.coe_add, ← EReal.coe_neg]
  congr 1
  ring

end Cert.Proof.LinScalars

end
-- ==== Proof.LinConst.lean ====
/- The values of the float constants that the two programs share or differ in. -/
module

public import proofs.«01_k».proof.Proof.LinScalars

@[expose] public section

noncomputable section

namespace Cert.Proof.LinConst

open Idealize.ShloMosaic

theorem c64 : Ideal.ofBits .f32 1115684864#32 = ((64 : ℝ) : EReal) := by
  have s : BitVec.extractLsb' 31 1 1115684864#32 = 0#1 := by decide
  norm_num [Ideal.ofBits, Ideal.ieee, s, Nat.shiftRight_eq_div_pow]

theorem c1_64 : Ideal.ofBits .f32 1015021568#32 = ((1 / 64 : ℝ) : EReal) := by
  have s : BitVec.extractLsb' 31 1 1015021568#32 = 0#1 := by decide
  norm_num [Ideal.ofBits, Ideal.ieee, s, Nat.shiftRight_eq_div_pow]

theorem c8 : Ideal.ofBits .f32 1090519040#32 = ((8 : ℝ) : EReal) := by
  have s : BitVec.extractLsb' 31 1 1090519040#32 = 0#1 := by decide
  norm_num [Ideal.ofBits, Ideal.ieee, s, Nat.shiftRight_eq_div_pow]

theorem c1_16 : Ideal.ofBits .f32 1031798784#32 = ((1 / 16 : ℝ) : EReal) := by
  have s : BitVec.extractLsb' 31 1 1031798784#32 = 0#1 := by decide
  norm_num [Ideal.ofBits, Ideal.ieee, s, Nat.shiftRight_eq_div_pow]

theorem c16 : Ideal.ofBits .f32 1098907648#32 = ((16 : ℝ) : EReal) := by
  have s : BitVec.extractLsb' 31 1 1098907648#32 = 0#1 := by decide
  norm_num [Ideal.ofBits, Ideal.ieee, s, Nat.shiftRight_eq_div_pow]

theorem c10000 : Ideal.ofBits .f32 1176256512#32 = ((10000 : ℝ) : EReal) := by
  have s : BitVec.extractLsb' 31 1 1176256512#32 = 0#1 := by decide
  norm_num [Ideal.ofBits, Ideal.ieee, s, Nat.shiftRight_eq_div_pow]

theorem c15 : Ideal.ofBits .f32 1097859072#32 = ((15 : ℝ) : EReal) := by
  have s : BitVec.extractLsb' 31 1 1097859072#32 = 0#1 := by decide
  norm_num [Ideal.ofBits, Ideal.ieee, s, Nat.shiftRight_eq_div_pow]

theorem c2 : Ideal.ofBits .f32 1073741824#32 = ((2 : ℝ) : EReal) := by
  have s : BitVec.extractLsb' 31 1 1073741824#32 = 0#1 := by decide
  norm_num [Ideal.ofBits, Ideal.ieee, s, Nat.shiftRight_eq_div_pow]

theorem cm5 : Ideal.ofBits .f32 3231711232#32 = ((-5 : ℝ) : EReal) := by
  have s : BitVec.extractLsb' 31 1 3231711232#32 = 1#1 := by decide
  norm_num [Ideal.ofBits, Ideal.ieee, s, Nat.shiftRight_eq_div_pow]

/-- The scale of the keys is a real number. -/
theorem scale : LinScalars.Real' (Ideal.ofBits .f32 1043662067#32) := by
  have s : BitVec.extractLsb' 31 1 1043662067#32 = 0#1 := by decide
  unfold LinScalars.Real'
  simp only [Ideal.ofBits, Ideal.ieee, s, Nat.shiftRight_eq_div_pow]
  norm_num
  exact ⟨_, rfl⟩

end Cert.Proof.LinConst

end
-- ==== Proof.Scalars.lean ====
/- Facts about single extended reals that the programs' scalar functions need. -/
module

public import Idealize.ShloMosaic.PureOps.Ideal.Laws

@[expose] public section

noncomputable section

namespace Cert.Proof.Scalars

open Idealize.ShloMosaic

/-- The exponential is nowhere negative. -/
theorem exp_nonneg (a : EReal) : 0 ≤ Ideal.exp a := by
  induction a with
  | bot => exact le_refl _
  | top => exact le_top
  | coe r => exact EReal.coe_nonneg.mpr (Real.exp_pos r).le

/-- So one more than it is never zero. -/
theorem one_add_exp_ne (a : EReal) : 1 + Ideal.exp a ≠ 0 := by
  have h : (1 : EReal) ≤ 1 + Ideal.exp a := le_add_of_nonneg_right (exp_nonneg a)
  exact (lt_of_lt_of_le zero_lt_one h).ne'

/-- The gate `z / (1 + exp (0 - z))` is `z` times the logistic function of `z`. -/
theorem gate (z : EReal) : z * Ideal.div 1 (1 + Ideal.exp (-z)) = Ideal.div z (1 + Ideal.exp (0 - z)) := by
  rw [zero_sub]
  unfold Ideal.div
  rw [if_neg (one_add_exp_ne _), if_neg (one_add_exp_ne _), one_mul]

end Cert.Proof.Scalars

end
-- ==== Proof.LinCore.lean ====
/- One recurrence over one chunk of eight rows, written out per head, and the kernel's tensors against it. -/
module

public import proofs.«01_k».proof.Proof.LinGroup
public import proofs.«01_k».proof.Proof.LinScalars
public import proofs.«01_k».proof.Proof.LinConst
public import proofs.«01_k».proof.Proof.Scalars

@[expose] public section

set_option maxRecDepth 16384

noncomputable section

namespace Cert.Proof.LinCore

open Idealize.ShloMosaic Idealize.ShloMosaic.TcCoe Idealize.SL.Sem
open Cert.Kernel6Ideal Cert.Kernel6Ideal.Gen
open Cert.Proof.LinMasks Cert.Proof.LinScalars

/-- A column `x` of the tensors that start at column `o` of a row lies in the row. -/
theorem col_lt {w : Nat} (o : Nat) (x : Fin w) (h : Nat.ble (o + w) 1664 = true) : o + x.val < 1664 := by
  have := Nat.le_of_ble_eq_true h
  omega

theorem col0_lt {w : Nat} (x : Fin w) (h : Nat.ble w 1664 = true) : x.val < 1664 := by
  have := Nat.le_of_ble_eq_true h
  omega

/-- Queries, keys and log decays: row, head, column of the head. -/
abbrev Keys := Fin 8 → Fin 4 → Fin 32 → EReal
/-- Values: row, head, column of the head. -/
abbrev Vals := Fin 8 → Fin 4 → Fin 64 → EReal
/-- The state: head, key column, value column. -/
abbrev St := Fin 4 → Fin 32 → Fin 64 → EReal

/-- The head and the place in the head of a key column. -/
abbrev kh (x : Fin 128) : Fin 4 := ⟨x.val / 32, by omega⟩
abbrev kp (x : Fin 128) : Fin 32 := ⟨x.val % 32, by omega⟩
/-- The place of a key column in its half of the head. -/
abbrev kr (x : Fin 128) : Fin 16 := ⟨x.val % 16, by omega⟩
/-- The head and the place in the head of a value column. -/
abbrev vh (y : Fin 256) : Fin 4 := ⟨y.val / 64, by omega⟩
abbrev vp (y : Fin 256) : Fin 64 := ⟨y.val % 64, by omega⟩

/-- The read-out at row `i`: the decayed scores of the rows up to `i` times their values, and the decayed query times the state. -/
def out (Q K B : Keys) (V : Vals) (S : St) (i : Fin 8) (h : Fin 4) (e : Fin 64) : EReal :=
  (∑ j : Fin 8, V j h e * if j.val ≤ i.val then (∑ d : Fin 32, Q i h d * Ideal.exp (B i h d) * (K j h d * Ideal.exp (-B j h d))) else 0)
    + ∑ d : Fin 32, S h d e * (Q i h d * Ideal.exp (B i h d))

/-- The state after the chunk. -/
def next (K B : Keys) (V : Vals) (S : St) (h : Fin 4) (d : Fin 32) (e : Fin 64) : EReal :=
  Ideal.exp (B 7 h d) * S h d e + ∑ j : Fin 8, K j h d * Ideal.exp (B 7 h d - B j h d) * V j h e

/-- A head's row divided by the root of its mean square, times the gain and the gate. -/
def finish (O : Fin 64 → EReal) (e : Fin 64) (gain gate : EReal) : EReal :=
  O e * Ideal.rsqrt (Ideal.div (∑ e, O e * O e) (Ideal.ofBits .f32 1115684864#32) + Ideal.ofBits .f32 897988541#32) * gain
    * (gate * Ideal.div 1 (1 + Ideal.exp (-gate)))

/-- The read-out of real inputs is real. -/
theorem out_real (Q K B : Keys) (V : Vals) (S : St) (hQ : ∀ i h d, Real' (Q i h d)) (hK : ∀ i h d, Real' (K i h d))
    (hB : ∀ i h d, Real' (B i h d)) (hV : ∀ i h d, Real' (V i h d)) (hS : ∀ i h d, Real' (S i h d)) (i : Fin 8) (h : Fin 4) (e : Fin 64) :
    Real' (out Q K B V S i h e) := by
  refine Real'.add (Real'.sum fun j => (hV j h e).mul (Real'.ite (Real'.sum fun d => ?_) real_zero)) (Real'.sum fun d => (hS h d e).mul ?_)
  · exact ((hQ i h d).mul (hB i h d).exp).mul ((hK j h d).mul (hB j h d).neg.exp)
  · exact (hQ i h d).mul (hB i h d).exp

/-- Key column `d` of head `h` has that head and that place. -/
theorem kh_mk (h : Fin 4) (d : Fin 32) (hl : 32 * h.val + d.val < 128) : kh ⟨32 * h.val + d.val, hl⟩ = h ∧ kp ⟨32 * h.val + d.val, hl⟩ = d :=
  ⟨Fin.ext (by show (32 * h.val + d.val) / 32 = h.val; omega), Fin.ext (by show (32 * h.val + d.val) % 32 = d.val; omega)⟩

theorem vh_mk (h : Fin 4) (e : Fin 64) (hl : 64 * h.val + e.val < 256) : vh ⟨64 * h.val + e.val, hl⟩ = h ∧ vp ⟨64 * h.val + e.val, hl⟩ = e :=
  ⟨Fin.ext (by show (64 * h.val + e.val) / 64 = h.val; omega), Fin.ext (by show (64 * h.val + e.val) % 64 = e.val; omega)⟩

/-- A sum over the key columns of one head. -/
theorem sum_head (h : Fin 4) (g : Fin 4 → Fin 32 → EReal) :
    (∑ x : Fin 128, if x.val / 32 = h.val then g (kh x) (kp x) else 0) = ∑ d : Fin 32, g h d := by
  rw [sum_block 128 32 h.val (by omega) (by omega) fun x => g (kh x) (kp x)]
  refine Finset.sum_congr rfl fun d _ => ?_
  obtain ⟨e1, e2⟩ := kh_mk h d (by omega)
  rw [e1, e2]

section
variable (Q K B : Keys) (V : Vals) (S : St)
  (qd : FVec Ideal S8x128 .f32) (ki : FVec Ideal S8x128 .bf16) (vb : FVec Ideal S8x256 .bf16) (s : FVec Ideal S1x1x128x256 .f32)
  (hq : ∀ i x, qd (ix2 i x) = Q i (kh x) (kp x) * Ideal.exp (B i (kh x) (kp x)))
  (hk : ∀ i x, ki (ix2 i x) = K i (kh x) (kp x) * Ideal.exp (-B i (kh x) (kp x)))
  (hv : ∀ i y, vb (ix2 i y) = V i (vh y) (vp y))
  (hs : ∀ x y, s (ix4 0 0 x y) = if x.val / 32 = y.val / 64 then S (kh x) (kp x) (vp y) else 0)

include hq hk hv hs in
/-- The kernel's read-out is the recurrence's. -/
theorem read_eq (i : Fin 8) (y : Fin 256) :
    LinGroup.read (F := Ideal) Gen.k0_pay4 headK Gen.k0_pay10 qd ki vb s (ix2 i y) = out Q K B V S i (vh y) (vp y) := by
  rw [LinGroup.read_at _ _ _ qd ki vb s tril_at headK_at headV_at i y]
  unfold out
  refine congrArg₂ (α := EReal) (β := EReal) (· + ·) (Finset.sum_congr rfl fun j _ => ?_) ?_
  · rw [mul_comm, hv]
    refine congrArg (V j (vh y) (vp y) * ·) (if_congr Iff.rfl ?_ rfl)
    rw [← sum_head (vh y) fun h d => Q i h d * Ideal.exp (B i h d) * (K j h d * Ideal.exp (-B j h d))]
    refine Finset.sum_congr rfl fun x _ => ?_
    rw [hq, hk]
    by_cases c : x.val / 32 = y.val / 64
    · rw [if_pos c, if_pos c]
    · rw [if_neg c, if_neg c, zero_mul]
  · rw [← sum_head (vh y) fun h d => S h d (vp y) * (Q i h d * Ideal.exp (B i h d))]
    refine Finset.sum_congr rfl fun x _ => ?_
    rw [hq, hs, mul_comm]
    by_cases c : x.val / 32 = y.val / 64
    · rw [if_pos c, if_pos c]
    · rw [if_neg c, if_neg c, zero_mul]

include hq hk hv hs in
/-- The kernel's output is the recurrence's, finished. -/
theorem out_eq (gate : FVec Ideal S8x256 .f32) (gain : FVec Ideal S1x256 .f32)
    (hr : ∀ i h e, Real' (out Q K B V S i h e)) (i : Fin 8) (y : Fin 256) :
    Gen.k0_pay42 (F := Ideal) meanV gate gain (LinGroup.read (F := Ideal) Gen.k0_pay4 headK Gen.k0_pay10 qd ki vb s) (ix3 0 i y)
      = finish (out Q K B V S i (vh y)) (vp y) (gain (ix2 0 y)) (gate (ix2 i y)) := by
  have ho : ∀ i y, LinGroup.read (F := Ideal) Gen.k0_pay4 headK Gen.k0_pay10 qd ki vb s (ix2 i y) = out Q K B V S i (vh y) (vp y) :=
    read_eq Q K B V S qd ki vb s hq hk hv hs
  generalize LinGroup.read (F := Ideal) Gen.k0_pay4 headK Gen.k0_pay10 qd ki vb s = o at ho
  have hm := mean (fun x => o (ix2 i x)) (fun x => by rw [ho]; exact hr _ _ _) (fun x => meanV (ix2 x y)) (y.val / 64) (by omega) _ _ LinConst.c1_64 LinConst.c64
    (fun x => meanV_at x y)
  rw [LinGroup.out_at, hm, zero_add, ho]
  have hsum : (∑ e : Fin 64, o (ix2 i ⟨64 * (y.val / 64) + e.val, by omega⟩) * o (ix2 i ⟨64 * (y.val / 64) + e.val, by omega⟩) : EReal)
      = ∑ e, out Q K B V S i (vh y) e * out Q K B V S i (vh y) e := by
    refine Finset.sum_congr rfl fun e _ => ?_
    have hl : 64 * (vh y).val + e.val < 256 := by
      show 64 * (y.val / 64) + e.val < 256
      omega
    obtain ⟨e1, e2⟩ := vh_mk (vh y) e hl
    rw [ho, e1, e2]
  rw [hsum, ← Scalars.gate]
  rfl

end

/-- The kernel's state after the chunk is the recurrence's, one block on the diagonal per head. -/
theorem next_eq (K B : Keys) (V : Vals) (S : St)
    (kd : FVec Ideal S8x128 .f32) (et : FVec Ideal S128x8 .f32) (vb : FVec Ideal S8x256 .bf16) (s : FVec Ideal S1x1x128x256 .f32)
    (hk : ∀ i x, kd (ix2 i x) = K i (kh x) (kp x) * Ideal.exp (B 7 (kh x) (kp x) - B i (kh x) (kp x)))
    (he : ∀ x, et (ix2 x 0) = B 7 (kh x) (kp x))
    (hv : ∀ i y, vb (ix2 i y) = V i (vh y) (vp y))
    (hs : ∀ x y, s (ix4 0 0 x y) = if x.val / 32 = y.val / 64 then S (kh x) (kp x) (vp y) else 0) (x : Fin 128) (y : Fin 256) :
    Gen.k0_pay40 (F := Ideal) diag kd et vb s (ix4 0 0 x y) = if x.val / 32 = y.val / 64 then next K B V S (kh x) (kp x) (vp y) else 0 := by
  rw [LinGroup.state_at diag kd et vb s diag_at, he, hs]
  by_cases c : x.val / 32 = y.val / 64
  · rw [if_pos c, if_pos c, if_pos c]
    unfold next
    refine congrArg (Ideal.exp (B 7 (kh x) (kp x)) * S (kh x) (kp x) (vp y) + ·) (Finset.sum_congr rfl fun j _ => ?_)
    have hh : vh y = kh x := Fin.ext c.symm
    rw [hk, hv, hh]
  · rw [if_neg c, if_neg c, if_neg c, mul_zero, add_zero]

end Cert.Proof.LinCore

end
-- ==== Proof.LinRef.lean ====
/- The reference's two recurrences, read at an index and matched with the recurrence per head. -/
module

public import proofs.«01_k».proof.Proof.Gen.Reference6Ideal.Read
public import proofs.«01_k».proof.Proof.LinCore
public import Idealize.ShloMosaic.Lib.Pipeline.ValueKit

@[expose] public section

set_option maxRecDepth 16384

noncomputable section

namespace Cert.Proof.LinRef

open Idealize.ShloMosaic Idealize.ShloMosaic.TcCoe
open Cert.Reference6Ideal Cert.Reference6Ideal.Gen Cert.Reference6Ideal.Read
open Cert.Proof.LinCore Cert.Proof.LinMasks

variable (x0 : FVec Ideal S32x8x1664 .f32) (x1 x2 : FVec Ideal S32x4x32x64 .f32) (x3 : FVec Ideal S16x128 .f32)
  (x4 : FVec Ideal S128 .f32) (x5 x6 : FVec Ideal S64 .f32) (n : Fin 32)

/-- The retention's queries, keys, log decays, values and state of one sequence. -/
abbrev rQ : Keys := fun i h d => val_main_v41 (F := Ideal) x0 (ix4 n i h d)
abbrev rK : Keys := fun i h d => val_main_v72 (F := Ideal) x0 (ix4 n i h d)
abbrev rB : Keys := fun i h d => val_main_v84 (F := Ideal) (ix4 n i h d)
abbrev rV : Vals := fun i h e => val_main_v83 (F := Ideal) x0 (ix4 n i h e)
abbrev rS : St := fun h d e => x1 (ix4 n h d e)

/-- The same of the gated recurrence. -/
abbrev gQ : Keys := fun i h d => val_main_v137 (F := Ideal) x0 (ix4 n i h d)
abbrev gK : Keys := fun i h d => val_main_v138 (F := Ideal) x0 (ix4 n i h d)
abbrev gB : Keys := fun i h d => val_main_v140 (F := Ideal) x0 x3 x4 (ix4 n i h d)
abbrev gV : Vals := fun i h e => val_main_v139 (F := Ideal) x0 (ix4 n i h e)

/-- The reference's triangular mask. -/
theorem mask : ∀ i j : Fin 8, Scalar.select (IntOp.cmpi .sge (IntOp.addi (BitVec.ofNat 32 i.val) 0#32) (BitVec.ofNat 32 j.val)) 1#1 0#1
    = if j.val ≤ i.val then 1#1 else 0#1 := by
  decide +kernel

theorem zero_id : (id (constant S_ .f32 0x00000000#32) : FVec Ideal S_ .f32) ix0 = (0 : EReal) := Ideal.ofBits_zero_f32

theorem ret_out (i : Fin 8) (h : Fin 4) (e : Fin 64) :
    val_main_v110 (F := Ideal) x0 x1 (ix4 n i h e) = out (rQ x0 n) (rK x0 n) (rB n) (rV x0 n) (rS x1 n) i h e := by
  pointwise [val_main_v110, val_main_v109, val_main_v108, val_main_v96, val_main_v95, val_main_v94, val_main_v91, val_main_v90, val_main_v89, val_main_v88,
    val_main_v87, val_main_v86, val_main_call4_v0, val_main_call4_v1, val_main_call4_v2, val_main_cst_12, val_main_v93, val_main_v92, val_main_c_11,
    val_main_call3_v0, val_main_call3_c, val_main_call3_v1, val_main_call3_v2, val_main_call3_v3, val_main_call3_v4, val_main_call3_c_0, val_main_call3_v5, out]
  simp only [mask, sel_ite]
  refine congrArg₂ (α := EReal) (β := EReal) (· + ·) (Finset.sum_congr rfl fun j _ => ?_) rfl
  exact congrArg (α := EReal) (_ * ·) (if_congr Iff.rfl rfl zero_id)

theorem gla_out (i : Fin 8) (h : Fin 4) (e : Fin 64) :
    val_main_v166 (F := Ideal) x0 x2 x3 x4 (ix4 n i h e) = out (gQ x0 n) (gK x0 n) (gB x0 x3 x4 n) (gV x0 n) (rS x2 n) i h e := by
  pointwise [val_main_v166, val_main_v165, val_main_v164, val_main_v152, val_main_v151, val_main_v150, val_main_v147, val_main_v146, val_main_v145,
    val_main_v144, val_main_v143, val_main_v142, val_main_call9_v0, val_main_call9_v1, val_main_call9_v2, val_main_cst_19, val_main_v149, val_main_v148,
    val_main_c_18, val_main_call8_v0, val_main_call8_c, val_main_call8_v1, val_main_call8_v2, val_main_call8_v3, val_main_call8_v4, val_main_call8_c_0,
    val_main_call8_v5, out]
  simp only [mask, sel_ite]
  refine congrArg₂ (α := EReal) (β := EReal) (· + ·) (Finset.sum_congr rfl fun j _ => ?_) rfl
  exact congrArg (α := EReal) (_ * ·) (if_congr Iff.rfl rfl zero_id)

theorem ret_next (h : Fin 4) (d : Fin 32) (e : Fin 64) :
    val_main_v107 (F := Ideal) x0 x1 (ix4 n h d e) = next (rK x0 n) (rB n) (rV x0 n) (rS x1 n) h d e := by
  pointwise [val_main_v107, val_main_v106, val_main_v105, val_main_v104, val_main_v103, val_main_v102, val_main_v101, val_main_v100, val_main_v99,
    val_main_v98, val_main_v97, val_main_v85, next]

theorem gla_next (h : Fin 4) (d : Fin 32) (e : Fin 64) :
    val_main_v163 (F := Ideal) x0 x2 x3 x4 (ix4 n h d e) = next (gK x0 n) (gB x0 x3 x4 n) (gV x0 n) (rS x2 n) h d e := by
  pointwise [val_main_v163, val_main_v162, val_main_v161, val_main_v160, val_main_v159, val_main_v158, val_main_v157, val_main_v156, val_main_v155,
    val_main_v154, val_main_v153, val_main_v141, next]

theorem ret_fin (i : Fin 8) (y : Fin 256) :
    val_main_v126 (F := Ideal) x0 x1 x5 (ix3 n i y)
      = finish (out (rQ x0 n) (rK x0 n) (rB n) (rV x0 n) (rS x1 n) i (vh y)) (vp y) (x5 (ix1 (vp y))) (x0 (ix3 n i ⟨512 + y.val, by omega⟩)) := by
  pointwise [val_main_v126, val_main_v125, val_main_v124, val_main_v123, val_main_v122, val_main_v121, val_main_v120, val_main_v119, val_main_v118, val_main_v117,
    val_main_v116, val_main_v115, val_main_v114, val_main_v113, val_main_v112, val_main_v111, val_main_cst_13, val_main_cst_14, val_main_cst_15,
    val_main_call5_v0, val_main_call5_v1, val_main_call5_cst, val_main_call5_v2, val_main_call5_v3, val_main_call5_cst_0, val_main_call5_v4, val_main_call5_v5,
    val_main_v4, val_main_v0, finish]
  simp only [ret_out]

theorem gla_fin (i : Fin 8) (y : Fin 256) :
    val_main_v182 (F := Ideal) x0 x2 x3 x4 x6 (ix3 n i y)
      = finish (out (gQ x0 n) (gK x0 n) (gB x0 x3 x4 n) (gV x0 n) (rS x2 n) i (vh y)) (vp y) (x6 (ix1 (vp y))) (x0 (ix3 n i ⟨1280 + y.val, by omega⟩)) := by
  pointwise [val_main_v182, val_main_v181, val_main_v180, val_main_v179, val_main_v178, val_main_v177, val_main_v176, val_main_v175, val_main_v174, val_main_v173,
    val_main_v172, val_main_v171, val_main_v170, val_main_v169, val_main_v168, val_main_v167, val_main_cst_20, val_main_cst_21, val_main_cst_22,
    val_main_call10_v0, val_main_call10_v1, val_main_call10_cst, val_main_call10_v2, val_main_call10_v3, val_main_call10_cst_0, val_main_call10_v4, val_main_call10_v5,
    val_main_v8, val_main_v0, finish]
  simp only [gla_out]

end Cert.Proof.LinRef

end
-- ==== Proof.LinRun.lean ====
/- The running sums along the eight rows of a chunk, as the reference writes them: a window sum padded with zeros. -/
module

public import proofs.«01_k».proof.Proof.Gen.Reference6Ideal.Read
public import Idealize.ShloMosaic.Lib.Pipeline.ValueKit

@[expose] public section

set_option maxRecDepth 16384

noncomputable section

namespace Cert.Proof.LinRun

open Idealize.ShloMosaic Idealize.ShloMosaic.TcCoe
open Cert.Reference6Ideal Cert.Reference6Ideal.Gen
open Cert.Reference6Ideal.Read (val_main_v84 val_main_v82 val_main_v81 val_main_v80 val_main_call2_call0_v0 val_main_call2_call0_cst
  val_main_v140 val_main_v134 val_main_call7_call0_v0 val_main_call7_call0_cst)

/-- A left fold that adds `g n` at each step is the sum of the `g n` on top of the start. -/
theorem foldl_add {α : Type} (l : List α) (f : EReal → α → EReal) (g : α → EReal) (hf : ∀ r n, f r n = r + g n) (v : EReal) :
    l.foldl f v = v + (l.map g).sum := by
  induction l generalizing v with
  | nil => simp
  | cons a l ih => rw [List.foldl_cons, ih, hf, List.map_cons, List.sum_cons, add_assoc]

/-- The window: eight rows, one of everything else. -/
abbrev W : Shape := ⟨4, ![1, 8, 1, 1]⟩

theorem win : ∀ n : Fin W.numel, (W.rowMajor.symm n 0).val = 0 ∧ (W.rowMajor.symm n 1).val = n.val ∧ (W.rowMajor.symm n 2).val = 0
    ∧ (W.rowMajor.symm n 3).val = 0 := by
  decide +kernel

/-- The window over row `i` holds the rows up to `i` and zeros. -/
theorem window (N : Nat) (hN : N = 8) (i : Fin 8) (X : Fin 8 → EReal) :
    (∑ n : Fin N, if h : 7 ≤ i.val + n.val ∧ i.val + n.val - 7 < 8 then X ⟨i.val + n.val - 7, h.2⟩ else 0) = ∑ j : Fin 8, if j.val ≤ i.val then X j else 0 := by
  subst hN
  fin_cases i <;> simp [Fin.sum_univ_eight] <;> rfl

/-- The window sum at row `i` is the sum of the rows up to `i`. -/
theorem cumsum_at (x : FVec Ideal S32x8x4x32 .f32) (init : FVec Ideal S_ .f32) (hi : ∀ k, init k = (0 : EReal))
    (n : Fin 32) (i : Fin 8) (h : Fin 4) (d : Fin 32) :
    (Host.reduceWindowAdd (F := Ideal) ![1, 8, 1, 1] ![1, 1, 1, 1] ![0, 7, 0, 0] ![0, 0, 0, 0] x init
        reduceWindows_S32x8x4x32_S32x8x4x32_w1s1p0_0_w8s1p7_0_w1s1p0_0_w1s1p0_0 h_S_ : FVec Ideal S32x8x4x32 .f32) (ix4 n i h d)
      = (∑ j : Fin 8, if j.val ≤ i.val then x (ix4 n j h d) else 0 : EReal) := by
  have hv : init (Shape.Idx.first h_S_) = (0 : EReal) := hi _
  unfold Host.reduceWindowAdd
  rw [hv]
  rw [Ideal.hostReduceWindowAdd_def]
  unfold Ideal.hostReduceWindowAdd Host.reduceWindow
  refine (foldl_add (List.finRange W.numel) _
    (fun k => if hk : 7 ≤ i.val + k.val ∧ i.val + k.val - 7 < 8 then (x (ix4 n ⟨i.val + k.val - 7, hk.2⟩ h d) : EReal) else 0) ?_ _).trans ?_
  · intro r k
    refine congrArg (r + ·) ?_
    obtain ⟨w0, w1, w2, w3⟩ := win k
    have hn := n.isLt
    have hh := h.isLt
    have hd := d.isLt
    split
    · next hin =>
      have h1 := hin 1
      change 7 ≤ i.val * 1 + (W.rowMajor.symm k 1).val ∧ i.val * 1 + (W.rowMajor.symm k 1).val - 7 < 8 at h1
      rw [w1, Nat.mul_one] at h1
      rw [dif_pos h1]
      refine congrArg x (funext fun a => Fin.ext ?_)
      match a with
      | ⟨0, _⟩ =>
        show n.val * 1 + (W.rowMajor.symm k 0).val - 0 = n.val
        rw [w0]
        omega
      | ⟨1, _⟩ =>
        show i.val * 1 + (W.rowMajor.symm k 1).val - 7 = i.val + k.val - 7
        rw [w1]
        omega
      | ⟨2, _⟩ =>
        show h.val * 1 + (W.rowMajor.symm k 2).val - 0 = h.val
        rw [w2]
        omega
      | ⟨3, _⟩ =>
        show d.val * 1 + (W.rowMajor.symm k 3).val - 0 = d.val
        rw [w3]
        omega
    · next hin =>
      rw [dif_neg fun hle => hin fun a => by
        match a with
        | ⟨0, _⟩ =>
          show 0 ≤ n.val * 1 + (W.rowMajor.symm k 0).val ∧ n.val * 1 + (W.rowMajor.symm k 0).val - 0 < 32
          rw [w0]
          omega
        | ⟨1, _⟩ =>
          show 7 ≤ i.val * 1 + (W.rowMajor.symm k 1).val ∧ i.val * 1 + (W.rowMajor.symm k 1).val - 7 < 8
          rw [w1]
          omega
        | ⟨2, _⟩ =>
          show 0 ≤ h.val * 1 + (W.rowMajor.symm k 2).val ∧ h.val * 1 + (W.rowMajor.symm k 2).val - 0 < 4
          rw [w2]
          omega
        | ⟨3, _⟩ =>
          show 0 ≤ d.val * 1 + (W.rowMajor.symm k 3).val ∧ d.val * 1 + (W.rowMajor.symm k 3).val - 0 < 32
          rw [w3]
          omega]
  · refine (zero_add _).trans ?_
    rw [← Fin.sum_univ_def]
    exact window W.numel (by decide +kernel) i fun j => x (ix4 n j h d)

/-- The retention's running log decay. -/
theorem run_ret (n : Fin 32) (i : Fin 8) (h : Fin 4) (d : Fin 32) :
    val_main_v84 (F := Ideal) (ix4 n i h d) = (∑ j : Fin 8, if j.val ≤ i.val then val_main_v80 (F := Ideal) (ix1 h) else 0 : EReal) := by
  unfold val_main_v84
  refine (cumsum_at _ _ (fun k => ?_) n i h d).trans (Finset.sum_congr rfl fun j _ => ?_)
  · pointwise [val_main_call2_call0_v0, val_main_call2_call0_cst]
  · have e : val_main_v82 (F := Ideal) (ix4 n j h d) = val_main_v80 (F := Ideal) (ix1 h) := by
      pointwise [val_main_v82, val_main_v81]
    rw [e]

/-- The gated recurrence's running log decay. -/
theorem run_gla (x0 : FVec Ideal S32x8x1664 .f32) (x3 : FVec Ideal S16x128 .f32) (x4 : FVec Ideal S128 .f32)
    (n : Fin 32) (i : Fin 8) (h : Fin 4) (d : Fin 32) :
    val_main_v140 (F := Ideal) x0 x3 x4 (ix4 n i h d)
      = (∑ j : Fin 8, if j.val ≤ i.val then val_main_v134 (F := Ideal) x0 x3 x4 (ix4 n j h d) else 0 : EReal) := by
  unfold val_main_v140
  refine cumsum_at _ _ (fun k => ?_) n i h d
  pointwise [val_main_call7_call0_v0, val_main_call7_call0_cst]

end Cert.Proof.LinRun

end
-- ==== Proof.LinRet.lean ====
/- The retention's queries, keys, values and log decays: the kernel's tensors against the reference's. -/
module

public import proofs.«01_k».proof.Proof.LinRef
public import proofs.«01_k».proof.Proof.LinRun

@[expose] public section

set_option maxRecDepth 16384

noncomputable section

namespace Cert.Proof.LinRet

open Idealize.ShloMosaic Idealize.ShloMosaic.TcCoe
open Cert.Kernel6Ideal Cert.Kernel6Ideal.Gen
open Cert.Reference6Ideal.Read
open Cert.Proof.LinCore Cert.Proof.LinMasks Cert.Proof.LinScalars

section
variable (x0 : FVec Ideal Cert.Kernel6Ideal.S32x8x1664 .f32) (n : Fin 32)
  (cos sin : FVec Ideal Cert.Kernel6Ideal.S8x128 .f32) (t : FVec Ideal Cert.Kernel6Ideal.S1x8x128 .f32)
  (hc : ∀ (i : Fin 8) (x : Fin 128), cos (ix2 i x) = val_main_v25 (F := Ideal) (ix2 i (kr x)))
  (hs : ∀ (i : Fin 8) (x : Fin 128), sin (ix2 i x) = val_main_v27 (F := Ideal) (ix2 i (kr x)))

include hc hs in
/-- The rotated row, before any scale. -/
theorem rot (i : Fin 8) (x : Fin 128) (q : Fin 8 → Fin 128 → EReal) :
    q i x * cos (ix2 i x) + Scalar.select (first (ix2 0 x)) (0 - q i ⟨(x.val + 128 - 112) % 128, by omega⟩) (q i ⟨(x.val + 128 - 16) % 128, by omega⟩) * sin (ix2 i x)
      = (if h : x.val % 32 < 16 then
          q i x * val_main_v25 (F := Ideal) (ix2 i ⟨x.val % 32, h⟩)
            - q i ⟨x.val / 32 * 32 + (16 + x.val % 32), by omega⟩ * val_main_v27 (F := Ideal) (ix2 i ⟨x.val % 32, h⟩)
        else
          q i ⟨x.val / 32 * 32 + (x.val % 32 - 16), by omega⟩ * val_main_v27 (F := Ideal) (ix2 i ⟨x.val % 32 - 16, by omega⟩)
            + q i ⟨x.val / 32 * 32 + (16 + (x.val % 32 - 16)), by omega⟩ * val_main_v25 (F := Ideal) (ix2 i ⟨x.val % 32 - 16, by omega⟩) : EReal) := by
  have f : ∀ (a b : Fin 128), a.val = b.val → q i a = q i b := fun a b e => congrArg (q i) (Fin.ext e)
  rw [hc, hs, first_at, sel_ite]
  by_cases h : x.val % 32 < 16
  · rw [if_pos h, dif_pos h, zero_sub, EReal.neg_mul, ← sub_eq_add_neg]
    have e : kr x = ⟨x.val % 32, h⟩ := Fin.ext (by show x.val % 16 = x.val % 32; omega)
    rw [e, f ⟨(x.val + 128 - 112) % 128, by omega⟩ ⟨x.val / 32 * 32 + (16 + x.val % 32), by omega⟩ (by show (x.val + 128 - 112) % 128 = x.val / 32 * 32 + (16 + x.val % 32); omega)]
  · rw [if_neg h, dif_neg h, add_comm]
    have e : kr x = ⟨x.val % 32 - 16, by omega⟩ := Fin.ext (by show x.val % 16 = x.val % 32 - 16; omega)
    rw [e, f x ⟨x.val / 32 * 32 + (16 + (x.val % 32 - 16)), by omega⟩ (by show x.val = x.val / 32 * 32 + (16 + (x.val % 32 - 16)); omega),
      f ⟨(x.val + 128 - 16) % 128, by omega⟩ ⟨x.val / 32 * 32 + (x.val % 32 - 16), by omega⟩ (by show (x.val + 128 - 16) % 128 = x.val / 32 * 32 + (x.val % 32 - 16); omega)]

include hc hs in
/-- The rotated queries. -/
theorem q_eq (ht : ∀ (i : Fin 8) (x : Fin 128), t (ix3 0 i x) = x0 (ix3 n i ⟨x.val, by omega⟩)) (i : Fin 8) (x : Fin 128) :
    Gen.k0_pay22 (F := Ideal) 32#32 Gen.k0_pay18 0#32 cos sin t (ix2 i x) = val_main_v41 (F := Ideal) x0 (ix4 n i (kh x) (kp x)) := by
  have k : Gen.k0_pay22 (F := Ideal) 32#32 Gen.k0_pay18 0#32 cos sin t (ix2 i x)
      = (t (ix3 0 i x) * cos (ix2 i x) + Scalar.select (first (ix2 0 x)) (0 - t (ix3 0 i ⟨(x.val + 128 - 112) % 128, by omega⟩))
          (t (ix3 0 i ⟨(x.val + 128 - 16) % 128, by omega⟩)) * sin (ix2 i x) : EReal) := by
    pointwise [Gen.k0_pay22, Gen.k0_pay20, Gen.k0_pay21]
  rw [k, rot cos sin hc hs i x fun i x => t (ix3 0 i x)]
  simp only [ht]
  pointwise [val_main_v41, val_main_v40, val_main_v39, val_main_v38, val_main_v37, val_main_v36, val_main_v35, val_main_v34, val_main_v33, val_main_v32,
    val_main_v31, val_main_v30, val_main_v29, val_main_v28, val_main_v26, val_main_v13, val_main_v1, val_main_v0]

include hc hs in
/-- The rotated and scaled keys. -/
theorem k_eq (ht : ∀ (i : Fin 8) (x : Fin 128), t (ix3 0 i x) = x0 (ix3 n i ⟨128 + x.val, by omega⟩)) (i : Fin 8) (x : Fin 128) :
    Gen.k0_pay26 (F := Ideal) (Gen.k0_pay24 cos t) (Gen.k0_pay25 32#32 Gen.k0_pay18 0#32 sin t) (ix2 i x) = val_main_v72 (F := Ideal) x0 (ix4 n i (kh x) (kp x)) := by
  have k : Gen.k0_pay26 (F := Ideal) (Gen.k0_pay24 cos t) (Gen.k0_pay25 32#32 Gen.k0_pay18 0#32 sin t) (ix2 i x)
      = ((t (ix3 0 i x) * cos (ix2 i x) + Scalar.select (first (ix2 0 x)) (0 - t (ix3 0 i ⟨(x.val + 128 - 112) % 128, by omega⟩))
          (t (ix3 0 i ⟨(x.val + 128 - 16) % 128, by omega⟩)) * sin (ix2 i x)) * Ideal.ofBits .f32 1043662067#32 : EReal) := by
    pointwise [Gen.k0_pay26, Gen.k0_pay25, Gen.k0_pay24, Gen.k0_pay23, Gen.k0_pay20, Gen.k0_pay21]
  have e54 : ∀ j : Cert.Kernel6Ideal.S8x16.Idx, val_main_v54 (F := Ideal) j = val_main_v25 (F := Ideal) j := fun _ => rfl
  have e56 : ∀ j : Cert.Kernel6Ideal.S8x16.Idx, val_main_v56 (F := Ideal) j = val_main_v27 (F := Ideal) j := fun _ => rfl
  rw [k, rot cos sin hc hs i x fun i x => t (ix3 0 i x)]
  simp only [ht]
  pointwise [val_main_v72, val_main_v71, val_main_cst_7, val_main_v70, val_main_v69, val_main_v68, val_main_v67, val_main_v66, val_main_v65, val_main_v64,
    val_main_v63, val_main_v62, val_main_v61, val_main_v60, val_main_v59, val_main_v58, val_main_v57, val_main_v55, val_main_v42, val_main_v2, val_main_v0]
  simp only [e54, e56]

end

/-- The values. -/
theorem v_eq (x0 : FVec Ideal Cert.Kernel6Ideal.S32x8x1664 .f32) (n : Fin 32) (t : FVec Ideal Cert.Kernel6Ideal.S1x8x256 .f32)
    (ht : ∀ (i : Fin 8) (y : Fin 256), t (ix3 0 i y) = x0 (ix3 n i ⟨256 + y.val, by omega⟩)) (i : Fin 8) (y : Fin 256) :
    Gen.k0_pay35 (F := Ideal) t (ix2 i y) = val_main_v83 (F := Ideal) x0 (ix4 n i (vh y) (vp y)) := by
  pointwise [Gen.k0_pay35, val_main_v83, val_main_v3, val_main_v0]
  rw [ht]
  refine congrArg x0 (congrArg (ix3 n i) (Fin.ext ?_))
  show 256 + y.val = 256 + (y.val / 64 * 64 + y.val % 64)
  omega

theorem seven : ∀ i : Fin 8, IntOp.andi (BitVec.ofNat 32 i.val) 7#32 = BitVec.ofNat 32 i.val := by
  decide +kernel

theorem to_int : ∀ i : Fin 8, (BitVec.ofNat 32 i.val).toInt = (i.val : Int) := by
  decide +kernel

/-- The reference's log decay of a head is a real number. -/
theorem decay_real (h : Fin 4) : Real' (val_main_v80 (F := Ideal) (ix1 h)) := by
  pointwise [val_main_v80, val_main_v79, val_main_v78, val_main_v77, val_main_v76, val_main_v75, val_main_v74, val_main_v73, val_main_cst_8, val_main_cst_9, val_main_cst_10]
  have e : (FloatOps.sitofp (F := Ideal) .f32 (BitVec.ofNat 32 h.val) : EReal) = ((h.val : ℝ) : EReal) := by
    show ((((BitVec.ofNat 32 h.val).toInt : ℝ)) : EReal) = _
    rw [to_int ⟨h.val, by omega⟩]
    rfl
  rw [e, LinConst.c2, LinConst.cm5, ← EReal.coe_sub, Ideal.pow_coe_coe, ← EReal.coe_one, ← EReal.coe_sub, Ideal.log_coe]
  have p : Real.rpow 2 (-5 - (h.val : ℝ)) < 1 := by
    refine Real.rpow_lt_one_of_one_lt_of_neg (by norm_num) ?_
    have : (0 : ℝ) ≤ (h.val : ℝ) := Nat.cast_nonneg _
    linarith
  rw [if_neg (by linarith)]
  exact ⟨_, rfl⟩

/-- The running log decay. -/
theorem b_eq (n : Fin 32) (r : FVec Ideal Cert.Kernel6Ideal.S1x128 .f32)
    (hr : ∀ x : Fin 128, r (ix2 0 x) = val_main_v80 (F := Ideal) (ix1 (kh x))) (i : Fin 8) (x : Fin 128) :
    Gen.k0_pay28 (F := Ideal) r (ix2 i x) = val_main_v84 (F := Ideal) (ix4 n i (kh x) (kp x)) := by
  have k : Gen.k0_pay28 (F := Ideal) r (ix2 i x) = (((i.val : ℝ) : EReal) + 1) * r (ix2 0 x) := by
    have e : (FloatOps.sitofp (F := Ideal) .f32 (IntOp.andi (BitVec.ofNat 32 i.val) 7#32) : EReal) = ((i.val : ℝ) : EReal) := by
      rw [seven]
      show ((((BitVec.ofNat 32 i.val).toInt : ℝ)) : EReal) = _
      rw [to_int]
      rfl
    pointwise [Gen.k0_pay28]
    rw [e]
  rw [k, hr, LinRun.run_ret]
  exact run_const i _ (decay_real _)

/-- The log decay at the chunk's end. -/
theorem e_eq (n : Fin 32) (r : FVec Ideal Cert.Kernel6Ideal.S1x128 .f32)
    (hr : ∀ x : Fin 128, r (ix2 0 x) = val_main_v80 (F := Ideal) (ix1 (kh x))) (i : Fin 8) (x : Fin 128) :
    Gen.k0_pay29 (F := Ideal) r (ix2 i x) = val_main_v84 (F := Ideal) (ix4 n 7 (kh x) (kp x)) := by
  have k : Gen.k0_pay29 (F := Ideal) r (ix2 i x) = (Ideal.ofBits .f32 1090519040#32 * r (ix2 0 x) : EReal) := by
    pointwise [Gen.k0_pay29]
  rw [k, hr, LinRun.run_ret, ← run_const 7 _ (decay_real _), LinConst.c8]
  congr 1
  have : ((((7 : Fin 8).val : ℝ) : EReal) + 1) = (((7 : ℝ) + 1 : ℝ) : EReal) := rfl
  rw [this]
  norm_num

end Cert.Proof.LinRet

end
-- ==== Proof.LinGla.lean ====
/- The gated recurrence's queries, keys, values and log decays: the kernel's tensors against the reference's. -/
module

public import proofs.«01_k».proof.Proof.LinRef
public import proofs.«01_k».proof.Proof.LinRun

@[expose] public section

set_option maxRecDepth 16384

noncomputable section

namespace Cert.Proof.LinGla

open Idealize.ShloMosaic Idealize.ShloMosaic.TcCoe
open Cert.Kernel6Ideal Cert.Kernel6Ideal.Gen
open Cert.Reference6Ideal.Read
open Cert.Proof.LinCore Cert.Proof.LinMasks Cert.Proof.LinScalars

section
variable (x0 : FVec Ideal Cert.Kernel6Ideal.S32x8x1664 .f32) (n : Fin 32)

/-- The scaled queries. -/
theorem q_eq (t : FVec Ideal Cert.Kernel6Ideal.S1x8x128 .f32) (ht : ∀ (i : Fin 8) (x : Fin 128), t (ix3 0 i x) = x0 (ix3 n i ⟨768 + x.val, by omega⟩))
    (i : Fin 8) (x : Fin 128) :
    Gen.k0_pay43 (F := Ideal) t (ix2 i x) = val_main_v137 (F := Ideal) x0 (ix4 n i (kh x) (kp x)) := by
  pointwise [Gen.k0_pay43, val_main_v137, val_main_v136, val_main_cst_17, val_main_v135, val_main_v5, val_main_v0]
  rw [ht]
  have e : ∀ h₁ h₂, (⟨768 + x.val, h₁⟩ : Fin 1664) = ⟨768 + (x.val / 32 * 32 + x.val % 32), h₂⟩ := fun _ _ => Fin.ext (by show 768 + x.val = 768 + (x.val / 32 * 32 + x.val % 32); omega)
  rw [e]

/-- The keys. -/
theorem k_eq (t : FVec Ideal Cert.Kernel6Ideal.S1x8x128 .f32) (ht : ∀ (i : Fin 8) (x : Fin 128), t (ix3 0 i x) = x0 (ix3 n i ⟨896 + x.val, by omega⟩))
    (i : Fin 8) (x : Fin 128) :
    Gen.k0_pay44 (F := Ideal) t (ix2 i x) = val_main_v138 (F := Ideal) x0 (ix4 n i (kh x) (kp x)) := by
  pointwise [Gen.k0_pay44, val_main_v138, val_main_v6, val_main_v0]
  rw [ht]
  refine congrArg x0 (congrArg (ix3 n i) (Fin.ext ?_))
  show 896 + x.val = 896 + (x.val / 32 * 32 + x.val % 32)
  omega

/-- The values. -/
theorem v_eq (t : FVec Ideal Cert.Kernel6Ideal.S1x8x256 .f32) (ht : ∀ (i : Fin 8) (y : Fin 256), t (ix3 0 i y) = x0 (ix3 n i ⟨1024 + y.val, by omega⟩))
    (i : Fin 8) (y : Fin 256) :
    Gen.k0_pay58 (F := Ideal) (Gen.k0_pay45 t) (ix2 i y) = val_main_v139 (F := Ideal) x0 (ix4 n i (vh y) (vp y)) := by
  pointwise [Gen.k0_pay58, Gen.k0_pay45, val_main_v139, val_main_v7, val_main_v0]
  rw [ht]
  refine congrArg x0 (congrArg (ix3 n i) (Fin.ext ?_))
  show 1024 + y.val = 1024 + (y.val / 64 * 64 + y.val % 64)
  omega

variable (x3 : FVec Ideal Cert.Kernel6Ideal.S16x128 .f32) (x4 : FVec Ideal Cert.Kernel6Ideal.S128 .f32)

/-- The gate's logit. -/
def logit (i : Fin 8) (x : Fin 128) : EReal :=
  (∑ k : Fin 16, x0 (ix3 n i ⟨1536 + k.val, by omega⟩) * x3 (ix2 k x)) + x4 (ix1 x)

variable (h0 : ∀ i x, Real' (x0 (ix3 n i x))) (h3 : ∀ k x, Real' (x3 (ix2 k x))) (h4 : ∀ x, Real' (x4 (ix1 x)))

include h0 h3 h4 in
theorem logit_real (i : Fin 8) (x : Fin 128) : Real' (logit x0 n x3 x4 i x) :=
  (Real'.sum fun _ => (h0 _ _).mul (h3 _ _)).add (h4 _)

/-- The reference's log decay, of the logit. -/
theorem ref_lg (i : Fin 8) (x : Fin 128) :
    val_main_v134 (F := Ideal) x0 x3 x4 (ix4 n i (kh x) (kp x))
      = Ideal.div (-(max (-logit x0 n x3 x4 i x) 0 + Ideal.log1p (Ideal.exp (-max (-logit x0 n x3 x4 i x - 0) (-(-logit x0 n x3 x4 i x - 0))))))
          (Ideal.ofBits .f32 1098907648#32) := by
  have e : ∀ hl, (⟨x.val / 32 * 32 + x.val % 32, hl⟩ : Fin 128) = x := fun _ => Fin.ext (by show x.val / 32 * 32 + x.val % 32 = x.val; omega)
  unfold logit
  pointwise [val_main_v134, val_main_v133, val_main_v132, val_main_cst_16, val_main_v131, val_main_call6_v1, val_main_call6_call0_v0, val_main_call6_call0_v1,
    val_main_call6_call0_v2, val_main_call6_call0_v3, val_main_call6_call0_v4, val_main_call6_call0_v5, val_main_call6_call0_v6, val_main_call6_call0_v7,
    val_main_call6_call0_v8, val_main_call6_call0_v9, val_main_call6_call0_v10, val_main_call6_call0_v11, val_main_call6_call0_cst, val_main_call6_v0,
    val_main_v130, val_main_v129, val_main_v128, val_main_v127, val_main_v9, val_main_v0]
  simp only [e, ne_eq, not_true_eq_false, if_false, Ideal.absf_def, sub_zero]

include h0 h3 h4 in
/-- The log decay: a real number, the same in both programs. -/
theorem lg_eq (t : FVec Ideal Cert.Kernel6Ideal.S1x8x128 .f32) (w : FVec Ideal Cert.Kernel6Ideal.S128x128 .bf16) (b : FVec Ideal Cert.Kernel6Ideal.S1x128 .f32)
    (ht : ∀ (i : Fin 8) (x : Fin 128), t (ix3 0 i x) = x0 (ix3 n i ⟨1536 + x.val, by omega⟩))
    (hw : ∀ k x : Fin 128, w (ix2 k x) = if h : k.val < 16 then x3 (ix2 ⟨k.val, h⟩ x) else (0 : EReal))
    (hb : ∀ x : Fin 128, b (ix2 0 x) = x4 (ix1 x)) (i : Fin 8) (x : Fin 128) :
    Gen.k0_pay47 (F := Ideal) t w b (ix2 i x) = val_main_v134 (F := Ideal) x0 x3 x4 (ix4 n i (kh x) (kp x))
      ∧ Real' (val_main_v134 (F := Ideal) x0 x3 x4 (ix4 n i (kh x) (kp x))) := by
  have hz : (∑ k : Fin 128, t (ix3 0 i k) * w (ix2 k x) : EReal) + b (ix2 0 x) = logit x0 n x3 x4 i x := by
    unfold logit
    rw [hb]
    congr 1
    refine Eq.trans (Finset.sum_congr rfl fun k _ => ?_)
      ((sum_block 128 16 0 (by omega) (by omega) fun k => if h : k.val < 16 then x0 (ix3 n i ⟨1536 + k.val, by omega⟩) * x3 (ix2 ⟨k.val, h⟩ x) else 0).trans
        (Finset.sum_congr rfl fun k _ => ?_))
    · rw [ht, hw]
      by_cases c : k.val < 16
      · rw [dif_pos c, if_pos (Nat.div_eq_of_lt c), dif_pos c]
      · rw [dif_neg c, if_neg (by omega), mul_zero]
    · rw [dif_pos (by show 16 * 0 + k.val < 16; omega)]
      have e : ∀ hl, (⟨16 * 0 + k.val, hl⟩ : Fin 16) = k := fun _ => Fin.ext (by show 16 * 0 + k.val = k.val; omega)
      simp only [Nat.mul_zero, Nat.zero_add]
  have k : Gen.k0_pay47 (F := Ideal) t w b (ix2 i x)
      = ((min (logit x0 n x3 x4 i x) 0 - Ideal.log (1 + Ideal.exp (0 - max (logit x0 n x3 x4 i x) (-logit x0 n x3 x4 i x)))) * Ideal.ofBits .f32 1031798784#32 : EReal) := by
    rw [← hz]
    pointwise [Gen.k0_pay47]
    simp only [Ideal.absf_def]
  obtain ⟨z, e⟩ := logit_real x0 n x3 x4 h0 h3 h4 i x
  rw [k, ref_lg, e, logsig_kernel, logsig_reference, LinConst.c1_16, LinConst.c16]
  have n16 : ((16 : ℝ) : EReal) ≠ 0 := by
    intro q
    have := EReal.coe_eq_zero.mp q
    norm_num at this
  rw [Ideal.div, if_neg n16, ← EReal.coe_inv, ← EReal.coe_mul, ← EReal.coe_mul]
  refine ⟨?_, _, rfl⟩
  congr 1
  norm_num

include h0 h3 h4 in
/-- The running log decay and the log decay at the chunk's end. -/
theorem b_eq (t : FVec Ideal Cert.Kernel6Ideal.S1x8x128 .f32) (w : FVec Ideal Cert.Kernel6Ideal.S128x128 .bf16) (b : FVec Ideal Cert.Kernel6Ideal.S1x128 .f32)
    (ht : ∀ (i : Fin 8) (x : Fin 128), t (ix3 0 i x) = x0 (ix3 n i ⟨1536 + x.val, by omega⟩))
    (hw : ∀ k x : Fin 128, w (ix2 k x) = if h : k.val < 16 then x3 (ix2 ⟨k.val, h⟩ x) else (0 : EReal))
    (hb : ∀ x : Fin 128, b (ix2 0 x) = x4 (ix1 x)) (i : Fin 8) (x : Fin 128) :
    Gen.k0_pay48 (F := Ideal) Gen.k0_pay5 t w b (ix2 i x) = val_main_v140 (F := Ideal) x0 x3 x4 (ix4 n i (kh x) (kp x)) := by
  have hg := fun j => lg_eq x0 n x3 x4 h0 h3 h4 t w b ht hw hb j x
  rw [LinRun.run_gla]
  pointwise [Gen.k0_pay48, Gen.k0_pay5]
  simp only [fun j => (hg j).1, fun j => (hg j).2.self_sub, sub_zero, tril_at, sel_ite, ite_self, Finset.sum_const_zero, add_zero]

include h0 h3 h4 in
theorem e_eq (t : FVec Ideal Cert.Kernel6Ideal.S1x8x128 .f32) (w : FVec Ideal Cert.Kernel6Ideal.S128x128 .bf16) (b : FVec Ideal Cert.Kernel6Ideal.S1x128 .f32)
    (ht : ∀ (i : Fin 8) (x : Fin 128), t (ix3 0 i x) = x0 (ix3 n i ⟨1536 + x.val, by omega⟩))
    (hw : ∀ k x : Fin 128, w (ix2 k x) = if h : k.val < 16 then x3 (ix2 ⟨k.val, h⟩ x) else (0 : EReal))
    (hb : ∀ x : Fin 128, b (ix2 0 x) = x4 (ix1 x)) (i : Fin 8) (x : Fin 128) :
    Gen.k0_pay53 (F := Ideal) Gen.k0_pay6 (Gen.k0_pay49 t w b) (Gen.k0_pay51 t w b) (Gen.k0_pay52 t w b) (constant Cert.Kernel6Ideal.S8x128 .f32 0#32) (ix2 i x)
      = val_main_v140 (F := Ideal) x0 x3 x4 (ix4 n 7 (kh x) (kp x)) := by
  have hg := fun j => lg_eq x0 n x3 x4 h0 h3 h4 t w b ht hw hb j x
  have all : ∀ j : Fin 8, j.val ≤ (7 : Fin 8).val := by decide
  rw [LinRun.run_gla]
  pointwise [Gen.k0_pay53, Gen.k0_pay52, Gen.k0_pay51, Gen.k0_pay50, Gen.k0_pay49, Gen.k0_pay6]
  have one : ∀ a b : EReal, Scalar.select 1#1 a b = a := fun _ _ => rfl
  simp only [fun j => (hg j).1, fun j => (hg j).2.self_sub, sub_zero, same_at, one, Finset.sum_const_zero, add_zero]
  exact Finset.sum_congr rfl fun j _ => (if_pos (all j)).symm

end

end Cert.Proof.LinGla

end
-- ==== Proof.LinReal.lean ====
/- For finite inputs every quantity that the recurrences read is a real number. -/
module

public import proofs.«01_k».proof.Proof.LinRet
public import proofs.«01_k».proof.Proof.LinGla

@[expose] public section

set_option maxRecDepth 16384

noncomputable section

namespace Cert.Proof.LinReal

open Idealize.ShloMosaic Idealize.ShloMosaic.TcCoe
open Cert.Reference6Ideal Cert.Reference6Ideal.Gen Cert.Reference6Ideal.Read
open Cert.Proof.LinCore Cert.Proof.LinMasks Cert.Proof.LinScalars Cert.Proof.LinRef

theorem sitofp_real {w : Nat} (b : BitVec w) : Real' (FloatOps.sitofp (F := Ideal) .f32 b) := ⟨(b.toInt : ℝ), rfl⟩

theorem div_real {a : EReal} (ha : Real' a) (r : ℝ) (hr : r ≠ 0) : Real' (Ideal.div a (r : EReal)) := by
  obtain ⟨s, rfl⟩ := ha
  have n : ((r : ℝ) : EReal) ≠ 0 := fun q => hr (EReal.coe_eq_zero.mp q)
  rw [Ideal.div, if_neg n, ← EReal.coe_inv, ← EReal.coe_mul]
  exact ⟨_, rfl⟩

/-- The rotation angles are real. -/
theorem angle_real (i : Fin 8) (d : Fin 16) : Real' (val_main_v24 (F := Ideal) (ix2 i d)) := by
  have p : ∀ a : EReal, Real' a → Real' (Ideal.div 1 (Ideal.pow (Ideal.ofBits .f32 1176256512#32) a)) := by
    rintro _ ⟨r, rfl⟩
    rw [LinConst.c10000, Ideal.pow_coe_coe]
    exact div_real real_one _ (ne_of_gt (Real.rpow_pos_of_pos (by norm_num) r))
  have q : ∀ a : EReal, Real' a → Real' (Ideal.div a (Ideal.ofBits .f32 1097859072#32)) := by
    intro a ha
    rw [LinConst.c15]
    exact div_real ha _ (by norm_num)
  have z : ((id (constant S_ .f32 0x00000000#32) : FVec Ideal S_ .f32) ix0 : EReal) = 0 := zero_id
  have o : ((id (constant S_ .f32 0x3F800000#32) : FVec Ideal S_ .f32) ix0 : EReal) = 1 := Ideal.ofBits_one_f32
  have h14 : Real' (val_main_v14 (F := Ideal) (ix1 d)) := by
    pointwise [val_main_v14, val_main_call0_v16, val_main_call0_v15, val_main_call0_v14, val_main_call0_v13, val_main_call0_v12, val_main_call0_v11,
      val_main_call0_v10, val_main_call0_v9, val_main_call0_v8, val_main_call0_v7, val_main_call0_v6, val_main_call0_v5, val_main_call0_v4,
      val_main_call0_v1, val_main_call0_v0, val_main_cst, val_main_cst_0, val_main_call0_cst, val_main_call0_cst_0, val_main_call0_cst_1]
    split
    · refine Real'.add (Real'.mul ?_ (Real'.sub real_one (q _ (sitofp_real _)))) (Real'.mul ?_ (q _ (sitofp_real _)))
      · exact ⟨0, zero_id⟩
      · exact ⟨1, o⟩
    · exact ⟨1, o⟩
  pointwise [val_main_v24, val_main_v23, val_main_v22, val_main_v21, val_main_v20, val_main_v19, val_main_v18, val_main_v17, val_main_cst_2, val_main_v16,
    val_main_v15, val_main_cst_1]
  exact (sitofp_real _).mul (p _ h14)

theorem cos_real (i : Fin 8) (d : Fin 16) : Real' (val_main_v25 (F := Ideal) (ix2 i d)) := by
  pointwise [val_main_v25]
  exact (angle_real i d).cos

theorem sin_real (i : Fin 8) (d : Fin 16) : Real' (val_main_v27 (F := Ideal) (ix2 i d)) := by
  pointwise [val_main_v27]
  exact (angle_real i d).sin

variable (x0 : FVec Ideal S32x8x1664 .f32) (n : Fin 32) (h0 : ∀ i x, Real' (x0 (ix3 n i x)))

include h0

theorem rQ_real (i : Fin 8) (h : Fin 4) (d : Fin 32) : Real' (rQ x0 n i h d) := by
  unfold rQ
  pointwise [val_main_v41, val_main_v40, val_main_v39, val_main_v38, val_main_v37, val_main_v36, val_main_v35, val_main_v34, val_main_v33, val_main_v32,
    val_main_v31, val_main_v30, val_main_v29, val_main_v28, val_main_v26, val_main_v13, val_main_v1, val_main_v0]
  split
  · exact ((h0 _ _).mul (cos_real _ _)).sub ((h0 _ _).mul (sin_real _ _))
  · exact ((h0 _ _).mul (sin_real _ _)).add ((h0 _ _).mul (cos_real _ _))

theorem rK_real (i : Fin 8) (h : Fin 4) (d : Fin 32) : Real' (rK x0 n i h d) := by
  unfold rK
  pointwise [val_main_v72, val_main_v71, val_main_cst_7, val_main_v70, val_main_v69, val_main_v68, val_main_v67, val_main_v66, val_main_v65, val_main_v64,
    val_main_v63, val_main_v62, val_main_v61, val_main_v60, val_main_v59, val_main_v58, val_main_v57, val_main_v55, val_main_v42, val_main_v2, val_main_v0]
  refine Real'.mul ?_ LinConst.scale
  split
  · exact ((h0 _ _).mul (cos_real _ _)).sub ((h0 _ _).mul (sin_real _ _))
  · exact ((h0 _ _).mul (sin_real _ _)).add ((h0 _ _).mul (cos_real _ _))

omit h0 in
theorem rB_real (i : Fin 8) (h : Fin 4) (d : Fin 32) : Real' (rB n i h d) := by
  unfold rB
  rw [LinRun.run_ret]
  exact Real'.sum fun j => Real'.ite (LinRet.decay_real h) real_zero

theorem rV_real (i : Fin 8) (h : Fin 4) (e : Fin 64) : Real' (rV x0 n i h e) := by
  unfold rV
  pointwise [val_main_v83, val_main_v3, val_main_v0]
  exact h0 _ _

theorem gQ_real (i : Fin 8) (h : Fin 4) (d : Fin 32) : Real' (gQ x0 n i h d) := by
  unfold gQ
  pointwise [val_main_v137, val_main_v136, val_main_cst_17, val_main_v135, val_main_v5, val_main_v0]
  exact (h0 _ _).mul LinConst.scale

theorem gK_real (i : Fin 8) (h : Fin 4) (d : Fin 32) : Real' (gK x0 n i h d) := by
  unfold gK
  pointwise [val_main_v138, val_main_v6, val_main_v0]
  exact h0 _ _

theorem gV_real (i : Fin 8) (h : Fin 4) (e : Fin 64) : Real' (gV x0 n i h e) := by
  unfold gV
  pointwise [val_main_v139, val_main_v7, val_main_v0]
  exact h0 _ _

end Cert.Proof.LinReal

end
-- ==== Proof.LinPieces.lean ====
/- The four tensors that one sequence's chunk produces, as the kernel computes them, are the reference's. -/
module

public import proofs.«01_k».proof.Proof.LinReal

@[expose] public section

set_option maxRecDepth 16384

noncomputable section

namespace Cert.Proof.LinPieces

open Idealize.ShloMosaic Idealize.ShloMosaic.TcCoe
open Cert.Kernel6Ideal Cert.Kernel6Ideal.Gen
open Cert.Reference6Ideal.Read (val_main_v126 val_main_v182 val_main_v107 val_main_v163 val_main_v25 val_main_v27 val_main_v80)
open Cert.Proof.LinCore Cert.Proof.LinMasks Cert.Proof.LinScalars Cert.Proof.LinRef Cert.Proof.LinReal

section
variable {F : FTy → Type} [FloatOps F]

/-- The keys, grown by the decay so far. -/
abbrev grown (k b : FVec F Cert.Kernel6Ideal.S8x128 .f32) : FVec F Cert.Kernel6Ideal.S8x128 .bf16 :=
  truncf .bf16 (mulf k (exp (subf (broadcast Cert.Kernel6Ideal.S8x128 (FloatOps.ofBits .f32 0x00000000#32)) b))) bitsLt_bf16_f32

variable (hm : FVec F Cert.Kernel6Ideal.S256x256 .bf16) (tril : IVec Cert.Kernel6Ideal.S8x8 1) (headK : IVec Cert.Kernel6Ideal.S1x128 32)
  (headV : IVec Cert.Kernel6Ideal.S1x256 32) (dg : IVec Cert.Kernel6Ideal.S128x256 1)
  (tq tk tg : FVec F Cert.Kernel6Ideal.S1x8x128 .f32) (tv tz : FVec F Cert.Kernel6Ideal.S1x8x256 .f32)
  (cos sin : FVec F Cert.Kernel6Ideal.S8x128 .f32) (r b : FVec F Cert.Kernel6Ideal.S1x128 .f32) (gain : FVec F Cert.Kernel6Ideal.S1x256 .f32)
  (w : FVec F Cert.Kernel6Ideal.S128x128 .bf16) (s : FVec F Cert.Kernel6Ideal.S1x1x128x256 .f32)

/-- The retention's output. -/
abbrev retOut : FVec F Cert.Kernel6Ideal.S1x8x256 .bf16 :=
  Gen.k0_pay42 hm (Gen.k0_pay27 tz) (Gen.k0_pay30 gain)
    (LinGroup.read tril headK headV (Gen.k0_pay31 (Gen.k0_pay22 32#32 Gen.k0_pay18 0#32 cos sin tq) r)
      (Gen.k0_pay32 (Gen.k0_pay24 cos tk) (Gen.k0_pay25 32#32 Gen.k0_pay18 0#32 sin tk) r) (Gen.k0_pay35 tv) s)

/-- The retention's state. -/
abbrev retState : FVec F Cert.Kernel6Ideal.S1x1x128x256 .f32 :=
  Gen.k0_pay40 dg (Gen.k0_pay33 (Gen.k0_pay24 cos tk) (Gen.k0_pay25 32#32 Gen.k0_pay18 0#32 sin tk) r r) (Gen.k0_pay34 r) (Gen.k0_pay35 tv) s

/-- The gated recurrence's output. -/
abbrev glaOut : FVec F Cert.Kernel6Ideal.S1x8x256 .bf16 :=
  Gen.k0_pay42 hm (Gen.k0_pay46 tz) (Gen.k0_pay54 gain)
    (LinGroup.read tril headK headV (Gen.k0_pay55 (Gen.k0_pay43 tq) (Gen.k0_pay48 Gen.k0_pay5 tg w b))
      (grown (Gen.k0_pay44 tk) (Gen.k0_pay48 Gen.k0_pay5 tg w b)) (Gen.k0_pay58 (Gen.k0_pay45 tv)) s)

/-- The gated recurrence's state. -/
abbrev glaState : FVec F Cert.Kernel6Ideal.S1x1x128x256 .f32 :=
  Gen.k0_pay40 dg
    (Gen.k0_pay56 Gen.k0_pay6 (Gen.k0_pay44 tk) (Gen.k0_pay48 Gen.k0_pay5 tg w b) (Gen.k0_pay49 tg w b) (Gen.k0_pay51 tg w b) (Gen.k0_pay52 tg w b)
      (constant Cert.Kernel6Ideal.S8x128 .f32 0x00000000#32))
    (Gen.k0_pay57 Gen.k0_pay6 (Gen.k0_pay49 tg w b) (Gen.k0_pay51 tg w b) (Gen.k0_pay52 tg w b) (constant Cert.Kernel6Ideal.S8x128 .f32 0x00000000#32))
    (Gen.k0_pay58 (Gen.k0_pay45 tv)) s

end

variable (x0 : FVec Ideal Cert.Kernel6Ideal.S32x8x1664 .f32) (x1 : FVec Ideal Cert.Kernel6Ideal.S32x4x32x64 .f32)
  (x3 : FVec Ideal Cert.Kernel6Ideal.S16x128 .f32) (x4 : FVec Ideal Cert.Kernel6Ideal.S128 .f32) (x5 : FVec Ideal Cert.Kernel6Ideal.S64 .f32) (n : Fin 32)
  (h0 : ∀ i x, Real' (x0 (ix3 n i x))) (h1 : ∀ h d e, Real' (x1 (ix4 n h d e))) (h3 : ∀ k x, Real' (x3 (ix2 k x))) (h4 : ∀ x, Real' (x4 (ix1 x)))
  (tq tk tg : FVec Ideal Cert.Kernel6Ideal.S1x8x128 .f32) (tv tz : FVec Ideal Cert.Kernel6Ideal.S1x8x256 .f32)
  (cos sin : FVec Ideal Cert.Kernel6Ideal.S8x128 .f32) (r b : FVec Ideal Cert.Kernel6Ideal.S1x128 .f32) (gain : FVec Ideal Cert.Kernel6Ideal.S1x256 .f32)
  (w : FVec Ideal Cert.Kernel6Ideal.S128x128 .bf16) (s : FVec Ideal Cert.Kernel6Ideal.S1x1x128x256 .f32)
  (hs : ∀ x y, s (ix4 0 0 x y) = if x.val / 32 = y.val / 64 then x1 (ix4 n (kh x) (kp x) (vp y)) else (0 : EReal))
  (hgain : ∀ y : Fin 256, gain (ix2 0 y) = x5 (ix1 (vp y)))

section
variable (hc : ∀ (i : Fin 8) (x : Fin 128), cos (ix2 i x) = val_main_v25 (F := Ideal) (ix2 i (kr x)))
  (hn : ∀ (i : Fin 8) (x : Fin 128), sin (ix2 i x) = val_main_v27 (F := Ideal) (ix2 i (kr x)))
  (hr : ∀ x : Fin 128, r (ix2 0 x) = val_main_v80 (F := Ideal) (ix1 (kh x)))
  (htq : ∀ (i : Fin 8) (x : Fin 128), tq (ix3 0 i x) = x0 (ix3 n i ⟨x.val, col0_lt x rfl⟩))
  (htk : ∀ (i : Fin 8) (x : Fin 128), tk (ix3 0 i x) = x0 (ix3 n i ⟨128 + x.val, col_lt 128 x rfl⟩))
  (htv : ∀ (i : Fin 8) (y : Fin 256), tv (ix3 0 i y) = x0 (ix3 n i ⟨256 + y.val, col_lt 256 y rfl⟩))
  (htz : ∀ (i : Fin 8) (y : Fin 256), tz (ix3 0 i y) = x0 (ix3 n i ⟨512 + y.val, col_lt 512 y rfl⟩))

include h0 h1 hs hgain hc hn hr htq htk htv htz in
/-- The retention's output is the reference's. -/
theorem retOut_eq (i : Fin 8) (y : Fin 256) :
    retOut (F := Ideal) meanV Gen.k0_pay4 headK Gen.k0_pay10 tq tk tv tz cos sin r gain s (ix3 0 i y) = val_main_v126 (F := Ideal) x0 x1 x5 (ix3 n i y) := by
  rw [ret_fin]
  have hg : Gen.k0_pay30 (F := Ideal) gain (ix2 0 y) = x5 (ix1 (vp y)) := by
    pointwise [Gen.k0_pay30]
    exact hgain y
  have hz : Gen.k0_pay27 (F := Ideal) tz (ix2 i y) = x0 (ix3 n i ⟨512 + y.val, col_lt 512 y rfl⟩) := by
    pointwise [Gen.k0_pay27]
    exact htz i y
  refine (out_eq (rQ x0 n) (rK x0 n) (rB n) (rV x0 n) (rS x1 n) _ _ _ s (fun i x => ?_) (fun i x => ?_) (fun i y => ?_) hs _ _ ?_ i y).trans ?_
  · have q := LinRet.q_eq x0 n cos sin tq hc hn htq i x
    have b := LinRet.b_eq n r hr i x
    generalize Gen.k0_pay22 (F := Ideal) 32#32 Gen.k0_pay18 0#32 cos sin tq = Q at q ⊢
    pointwise [Gen.k0_pay31]
    rw [q, b]
  · have k := LinRet.k_eq x0 n cos sin tk hc hn htk i x
    have b := LinRet.b_eq n r hr i x
    generalize Gen.k0_pay24 (F := Ideal) cos tk = A at k ⊢
    generalize Gen.k0_pay25 (F := Ideal) 32#32 Gen.k0_pay18 0#32 sin tk = B at k ⊢
    pointwise [Gen.k0_pay32]
    rw [k, b, zero_sub]
  · exact LinRet.v_eq x0 n tv htv i y
  · exact out_real _ _ _ _ _ (rQ_real x0 n h0) (rK_real x0 n h0) (rB_real n) (rV_real x0 n h0) h1
  · rw [hg, hz]

include hs hc hn hr htk htv in
/-- The retention's state is the reference's, one block on the diagonal per head. -/
theorem retState_eq (x : Fin 128) (y : Fin 256) :
    retState (F := Ideal) diag tk tv cos sin r s (ix4 0 0 x y)
      = if x.val / 32 = y.val / 64 then val_main_v107 (F := Ideal) x0 x1 (ix4 n (kh x) (kp x) (vp y)) else (0 : EReal) := by
  rw [ret_next]
  refine next_eq (rK x0 n) (rB n) (rV x0 n) (rS x1 n) _ _ _ s (fun i x => ?_) (fun x => ?_) (fun i y => ?_) hs x y
  · have k := LinRet.k_eq x0 n cos sin tk hc hn htk i x
    have b := LinRet.b_eq n r hr i x
    have e := LinRet.e_eq n r hr i x
    generalize Gen.k0_pay24 (F := Ideal) cos tk = A at k ⊢
    generalize Gen.k0_pay25 (F := Ideal) 32#32 Gen.k0_pay18 0#32 sin tk = B at k ⊢
    pointwise [Gen.k0_pay33]
    rw [k, b, e]
  · have e := LinRet.e_eq n r hr 0 x
    pointwise [Gen.k0_pay34]
    exact e
  · exact LinRet.v_eq x0 n tv htv i y

end

section
variable (htq : ∀ (i : Fin 8) (x : Fin 128), tq (ix3 0 i x) = x0 (ix3 n i ⟨768 + x.val, col_lt 768 x rfl⟩))
  (htk : ∀ (i : Fin 8) (x : Fin 128), tk (ix3 0 i x) = x0 (ix3 n i ⟨896 + x.val, col_lt 896 x rfl⟩))
  (htv : ∀ (i : Fin 8) (y : Fin 256), tv (ix3 0 i y) = x0 (ix3 n i ⟨1024 + y.val, col_lt 1024 y rfl⟩))
  (htz : ∀ (i : Fin 8) (y : Fin 256), tz (ix3 0 i y) = x0 (ix3 n i ⟨1280 + y.val, col_lt 1280 y rfl⟩))
  (htg : ∀ (i : Fin 8) (x : Fin 128), tg (ix3 0 i x) = x0 (ix3 n i ⟨1536 + x.val, col_lt 1536 x rfl⟩))
  (hw : ∀ k x : Fin 128, w (ix2 k x) = if h : k.val < 16 then x3 (ix2 ⟨k.val, h⟩ x) else (0 : EReal))
  (hb : ∀ x : Fin 128, b (ix2 0 x) = x4 (ix1 x))

/-- The running log decay of the gated recurrence is real. -/
theorem gB_real (h0 : ∀ i x, Real' (x0 (ix3 n i x))) (h3 : ∀ k x, Real' (x3 (ix2 k x))) (h4 : ∀ x, Real' (x4 (ix1 x)))
    (tg : FVec Ideal Cert.Kernel6Ideal.S1x8x128 .f32) (w : FVec Ideal Cert.Kernel6Ideal.S128x128 .bf16) (b : FVec Ideal Cert.Kernel6Ideal.S1x128 .f32)
    (htg : ∀ (i : Fin 8) (x : Fin 128), tg (ix3 0 i x) = x0 (ix3 n i ⟨1536 + x.val, col_lt 1536 x rfl⟩))
    (hw : ∀ k x : Fin 128, w (ix2 k x) = if h : k.val < 16 then x3 (ix2 ⟨k.val, h⟩ x) else (0 : EReal))
    (hb : ∀ x : Fin 128, b (ix2 0 x) = x4 (ix1 x)) (i : Fin 8) (h : Fin 4) (d : Fin 32) : Real' (gB x0 x3 x4 n i h d) := by
  unfold gB
  rw [LinRun.run_gla]
  obtain ⟨e1, e2⟩ := kh_mk h d (by omega)
  refine Real'.sum fun j => Real'.ite ?_ real_zero
  have := (LinGla.lg_eq x0 n x3 x4 h0 h3 h4 tg w b htg hw hb j ⟨32 * h.val + d.val, by omega⟩).2
  rw [e1, e2] at this
  exact this

include h0 h1 h3 h4 hs hgain htq htk htv htz htg hw hb in
/-- The gated recurrence's output is the reference's. -/
theorem glaOut_eq (i : Fin 8) (y : Fin 256) :
    glaOut (F := Ideal) meanV Gen.k0_pay4 headK Gen.k0_pay10 tq tk tg tv tz b gain w s (ix3 0 i y) = val_main_v182 (F := Ideal) x0 x1 x3 x4 x5 (ix3 n i y) := by
  rw [gla_fin]
  have hg : Gen.k0_pay54 (F := Ideal) gain (ix2 0 y) = x5 (ix1 (vp y)) := by
    pointwise [Gen.k0_pay54]
    exact hgain y
  have hz : Gen.k0_pay46 (F := Ideal) tz (ix2 i y) = x0 (ix3 n i ⟨1280 + y.val, col_lt 1280 y rfl⟩) := by
    pointwise [Gen.k0_pay46]
    exact htz i y
  refine (out_eq (gQ x0 n) (gK x0 n) (gB x0 x3 x4 n) (gV x0 n) (rS x1 n) _ _ _ s (fun i x => ?_) (fun i x => ?_) (fun i y => ?_) hs _ _ ?_ i y).trans ?_
  · have q := LinGla.q_eq x0 n tq htq i x
    have e := LinGla.b_eq x0 n x3 x4 h0 h3 h4 tg w b htg hw hb i x
    generalize Gen.k0_pay43 (F := Ideal) tq = Q at q ⊢
    generalize Gen.k0_pay48 (F := Ideal) Gen.k0_pay5 tg w b = B at e ⊢
    pointwise [Gen.k0_pay55]
    rw [q, e]
  · have k := LinGla.k_eq x0 n tk htk i x
    have e := LinGla.b_eq x0 n x3 x4 h0 h3 h4 tg w b htg hw hb i x
    generalize Gen.k0_pay44 (F := Ideal) tk = K at k ⊢
    generalize Gen.k0_pay48 (F := Ideal) Gen.k0_pay5 tg w b = B at e ⊢
    pointwise [grown]
    rw [k, e, zero_sub]
  · exact LinGla.v_eq x0 n tv htv i y
  · exact out_real _ _ _ _ _ (gQ_real x0 n h0) (gK_real x0 n h0) (gB_real x0 x3 x4 n h0 h3 h4 tg w b htg hw hb) (gV_real x0 n h0) h1
  · rw [hg, hz]

include h0 h3 h4 hs htk htv htg hw hb in
/-- The gated recurrence's state is the reference's, one block on the diagonal per head. -/
theorem glaState_eq (x : Fin 128) (y : Fin 256) :
    glaState (F := Ideal) diag tk tg tv b w s (ix4 0 0 x y)
      = if x.val / 32 = y.val / 64 then val_main_v163 (F := Ideal) x0 x1 x3 x4 (ix4 n (kh x) (kp x) (vp y)) else (0 : EReal) := by
  rw [gla_next]
  refine next_eq (gK x0 n) (gB x0 x3 x4 n) (gV x0 n) (rS x1 n) _ _ _ s (fun i x => ?_) (fun x => ?_) (fun i y => ?_) hs x y
  · have k := LinGla.k_eq x0 n tk htk i x
    have e := LinGla.b_eq x0 n x3 x4 h0 h3 h4 tg w b htg hw hb i x
    have l := LinGla.e_eq x0 n x3 x4 h0 h3 h4 tg w b htg hw hb i x
    generalize Gen.k0_pay44 (F := Ideal) tk = K at k ⊢
    generalize Gen.k0_pay48 (F := Ideal) Gen.k0_pay5 tg w b = B at e ⊢
    pointwise [Gen.k0_pay56]
    rw [k, e, l]
  · have l := LinGla.e_eq x0 n x3 x4 h0 h3 h4 tg w b htg hw hb 0 x
    pointwise [Gen.k0_pay57]
    exact l
  · exact LinGla.v_eq x0 n tv htv i y

end

end Cert.Proof.LinPieces

end
-- ==== Proof.LinHost.lean ====
/- The blocks the recurrences' kernel reads at a grid point: the two sequences' rows, the tables and constants prepared before the call, and the two sequences' states. -/
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.Proof.LinHost

open Idealize.ShloMosaic Idealize.ShloMosaic.TcCoe Idealize.SL.Sem
open Cert.Reference6Ideal.Read (val_main_v25 val_main_v27 val_main_v24 val_main_v23 val_main_v22 val_main_v21 val_main_v20 val_main_v19 val_main_v18
  val_main_v17 val_main_cst_2 val_main_v16 val_main_v15 val_main_cst_1 val_main_v12 val_main_v14 val_main_v80 val_main_v79 val_main_v78
  val_main_cst_10 val_main_v77 val_main_v76 val_main_cst_9 val_main_v75 val_main_v74 val_main_cst_8 val_main_v73)
open Cert.Kernel6Ideal Cert.Kernel6Ideal.Gen

variable (m : (ℓ : Loc nD τ sig) → Buf (Elt Ideal) ℓ)

/-- Where each window's block lies at each grid point. -/
theorem idx : ∀ t : Fin cfg0.N, win0_0.index t = ![t.val, 0, 0] ∧ win0_1.index t = ![0, 0]
   ∧ win0_2.index t = ![0, 0] ∧ win0_3.index t = ![0, 0] ∧ win0_4.index t = ![0, 0] ∧ win0_5.index t = ![0, 0]
   ∧ win0_6.index t = ![0, 0] ∧ win0_7.index t = ![0, 0] ∧ win0_8.index t = ![t.val, 0, 0, 0] ∧ win0_9.index t = ![t.val, 0, 0]
   ∧ win0_10.index t = ![t.val, 0, 0, 0] := by
  decide +kernel

theorem row_lt : ∀ (t : Fin cfg0.N) (b : Fin 2), 2 * t.val + b.val < 32 := by
  decide +kernel

/-- The sequence that is row `b` of the blocks at grid point `t`. -/
abbrev row (t : Fin cfg0.N) (b : Fin 2) : Fin 32 := ⟨2 * t.val + b.val, row_lt t b⟩

abbrev Tok (c : Dev nD) : FVec Ideal S32x8x1664 .f32 := m ((c : Thread nD τ).loc main_arg0)
abbrev SR (c : Dev nD) : FVec Ideal S32x4x32x64 .f32 := m ((c : Thread nD τ).loc main_arg1)
abbrev SG (c : Dev nD) : FVec Ideal S32x4x32x64 .f32 := m ((c : Thread nD τ).loc main_arg2)
abbrev W2 (c : Dev nD) : FVec Ideal S16x128 .f32 := m ((c : Thread nD τ).loc main_arg3)
abbrev GB (c : Dev nD) : FVec Ideal S128 .f32 := m ((c : Thread nD τ).loc main_arg4)
abbrev GR (c : Dev nD) : FVec Ideal S64 .f32 := m ((c : Thread nD τ).loc main_arg5)
abbrev GG (c : Dev nD) : FVec Ideal S64 .f32 := m ((c : Thread nD τ).loc main_arg6)

/-- What a buffer holds when the call begins: the three stretches of host operations, one after another. -/
theorem V_eq (c : Dev nD) (b : Ref sig .tc) : V m c b
    = StableHlo.after hostOps0_2 (StableHlo.after hostOps0_1 (StableHlo.after hostOps0 fun b => m (c, b))) (b : DevRef τ sig) := by
  have e : [hostOps0 (F := Ideal), hostOps0_1, hostOps0_2].flatten = hostOps0 ++ (hostOps0_1 ++ hostOps0_2) := by
    rw [List.flatten_cons, List.flatten_cons, List.flatten_cons, List.flatten_nil, List.append_nil]
  unfold V
  rw [e, StableHlo.after_append, StableHlo.after_append]

section
variable (σ : Valuation τ sig (Elt Ideal))

theorem at_v3 : (StableHlo.after hostOps0_1 (StableHlo.after hostOps0 σ) (main_v3 : DevRef τ sig) : FVec Ideal S16 .f32) = val_main_v14 (F := Ideal) := by
  entry_read
  rfl

theorem at_v2 : (StableHlo.after hostOps0_1 (StableHlo.after hostOps0 σ) (main_v2 : DevRef τ sig) : IVec S8 32) = val_main_v12 (F := Ideal) := by
  entry_read
  rfl

theorem at_arg1 : (StableHlo.after hostOps0_1 (StableHlo.after hostOps0 σ) (main_arg1 : DevRef τ sig)) = σ (main_arg1 : DevRef τ sig) := by
  entry_read
  rfl

theorem at_arg2 : (StableHlo.after hostOps0_1 (StableHlo.after hostOps0 σ) (main_arg2 : DevRef τ sig)) = σ (main_arg2 : DevRef τ sig) := by
  entry_read
  rfl

theorem at_arg3 : (StableHlo.after hostOps0_1 (StableHlo.after hostOps0 σ) (main_arg3 : DevRef τ sig)) = σ (main_arg3 : DevRef τ sig) := by
  entry_read
  rfl

theorem at_arg4 : (StableHlo.after hostOps0_1 (StableHlo.after hostOps0 σ) (main_arg4 : DevRef τ sig)) = σ (main_arg4 : DevRef τ sig) := by
  entry_read
  rfl

theorem at_arg5 : (StableHlo.after hostOps0_1 (StableHlo.after hostOps0 σ) (main_arg5 : DevRef τ sig)) = σ (main_arg5 : DevRef τ sig) := by
  entry_read
  rfl

theorem at_arg6 : (StableHlo.after hostOps0_1 (StableHlo.after hostOps0 σ) (main_arg6 : DevRef τ sig)) = σ (main_arg6 : DevRef τ sig) := by
  entry_read
  rfl

/-- The table of cosines, repeated along the columns. -/
theorem v17 (hv3 : (σ (main_v3 : DevRef τ sig) : FVec Ideal S16 .f32) = val_main_v14 (F := Ideal))
    (hv2 : (σ (main_v2 : DevRef τ sig) : IVec S8 32) = val_main_v12 (F := Ideal)) (i : Fin 8) (x : Fin 128) :
    (StableHlo.after hostOps0_2 σ (main_v17 : DevRef τ sig) : FVec Ideal S8x128 .f32) (ix2 i x) = val_main_v25 (F := Ideal) (ix2 i ⟨x.val % 16, by omega⟩) := by
  entry_read
  rw [hv3, hv2]
  pointwise [val_main_v25, val_main_v24, val_main_v23, val_main_v22, val_main_v21, val_main_v20, val_main_v19, val_main_v18,
    val_main_v17, val_main_cst_2, val_main_v16, val_main_v15, val_main_cst_1]

/-- The table of sines, repeated along the columns. -/
theorem v21 (hv3 : (σ (main_v3 : DevRef τ sig) : FVec Ideal S16 .f32) = val_main_v14 (F := Ideal))
    (hv2 : (σ (main_v2 : DevRef τ sig) : IVec S8 32) = val_main_v12 (F := Ideal)) (i : Fin 8) (x : Fin 128) :
    (StableHlo.after hostOps0_2 σ (main_v21 : DevRef τ sig) : FVec Ideal S8x128 .f32) (ix2 i x) = val_main_v27 (F := Ideal) (ix2 i ⟨x.val % 16, by omega⟩) := by
  entry_read
  rw [hv3, hv2]
  pointwise [val_main_v27, val_main_v24, val_main_v23, val_main_v22, val_main_v21, val_main_v20, val_main_v19, val_main_v18,
    val_main_v17, val_main_cst_2, val_main_v16, val_main_v15, val_main_cst_1]

/-- The heads' log decays, each repeated along its head's columns. -/
theorem v32 (x : Fin 128) :
    (StableHlo.after hostOps0_2 σ (main_v32 : DevRef τ sig) : FVec Ideal S1x128 .f32) (ix2 0 x) = val_main_v80 (F := Ideal) (ix1 ⟨x.val / 32, by omega⟩) := by
  entry_read
  pointwise [val_main_v80, val_main_v79, val_main_v78, val_main_cst_10, val_main_v77, val_main_v76, val_main_cst_9, val_main_v75, val_main_v74,
    val_main_cst_8, val_main_v73]

/-- The gate's weights over 112 rows of zeros. -/
theorem v35 (k x : Fin 128) :
    (StableHlo.after hostOps0_2 σ (main_v35 : DevRef τ sig) : FVec Ideal S128x128 .bf16) (ix2 k x)
      = if h : k.val < 16 then (σ (main_arg3 : DevRef τ sig) : FVec Ideal S16x128 .f32) (ix2 ⟨k.val, h⟩ x) else (0 : EReal) := by
  entry_read
  pointwise

/-- The gate's bias as a row. -/
theorem v36 (x : Fin 128) :
    (StableHlo.after hostOps0_2 σ (main_v36 : DevRef τ sig) : FVec Ideal S1x128 .f32) (ix2 0 x) = (σ (main_arg4 : DevRef τ sig) : FVec Ideal S128 .f32) (ix1 x) := by
  entry_read
  pointwise

/-- The retention's output gain, once per head. -/
theorem v40 (y : Fin 256) :
    (StableHlo.after hostOps0_2 σ (main_v40 : DevRef τ sig) : FVec Ideal S1x256 .f32) (ix2 0 y) = (σ (main_arg5 : DevRef τ sig) : FVec Ideal S64 .f32) (ix1 ⟨y.val % 64, by omega⟩) := by
  entry_read
  pointwise

/-- The gated recurrence's output gain, once per head. -/
theorem v44 (y : Fin 256) :
    (StableHlo.after hostOps0_2 σ (main_v44 : DevRef τ sig) : FVec Ideal S1x256 .f32) (ix2 0 y) = (σ (main_arg6 : DevRef τ sig) : FVec Ideal S64 .f32) (ix1 ⟨y.val % 64, by omega⟩) := by
  entry_read
  pointwise

/-- A comparison of two head numbers, as a factor, keeps a number or makes it zero. -/
theorem eye (a b : Nat) (ha : a < 4) (hb : b < 4) (s : EReal) :
    s * (FloatOps.uitofp (F := Ideal) .f32 (IntOp.cmpi CmpIPredicate.eq (IntOp.addi (BitVec.ofNat 32 a) 0#32) (BitVec.ofNat 32 b)) : EReal) = if a = b then s else 0 := by
  have e : (IntOp.cmpi CmpIPredicate.eq (IntOp.addi (BitVec.ofNat 32 a) 0#32) (BitVec.ofNat 32 b)) = if a = b then 1#1 else 0#1 := by
    interval_cases a <;> interval_cases b <;> rfl
  rw [e]
  split
  · have : (FloatOps.uitofp (F := Ideal) .f32 (1#1 : BitVec 1) : EReal) = 1 := by
      show (((1#1 : BitVec 1).toNat : ℝ) : EReal) = 1
      norm_num
    rw [this, mul_one]
  · have : (FloatOps.uitofp (F := Ideal) .f32 (0#1 : BitVec 1) : EReal) = 0 := by
      show (((0#1 : BitVec 1).toNat : ℝ) : EReal) = 0
      norm_num
    rw [this, mul_zero]

/-- The states with each head's block on the diagonal. -/
theorem v71 (n : Fin 32) (g : Fin 2) (x : Fin 128) (y : Fin 256) (s : EReal)
    (h₁ : g.val < 1 → s = (σ (main_arg1 : DevRef τ sig) : FVec Ideal S32x4x32x64 .f32) (ix4 n ⟨x.val / 32, by omega⟩ ⟨x.val % 32, by omega⟩ ⟨y.val % 64, by omega⟩))
    (h₂ : ¬g.val < 1 → s = (σ (main_arg2 : DevRef τ sig) : FVec Ideal S32x4x32x64 .f32) (ix4 n ⟨x.val / 32, by omega⟩ ⟨x.val % 32, by omega⟩ ⟨y.val % 64, by omega⟩)) :
    (StableHlo.after hostOps0_2 σ (main_v71 : DevRef τ sig) : FVec Ideal S32x2x128x256 .f32) (ix4 n g x y)
      = if x.val / 32 = y.val / 64 then s else (0 : EReal) := by
  have hx : x.val / 32 < 4 := by omega
  have hy : y.val / 64 < 4 := by omega
  have key := eye (x.val / 32) (y.val / 64) hx hy s
  generalize (if x.val / 32 = y.val / 64 then s else (0 : EReal)) = R at key ⊢
  entry_read
  pointwise
  by_cases hg : g.val < 1
  · have e := h₁ hg
    clear h₁ h₂
    subst e
    rw [dif_pos hg]
    exact key
  · have e := h₂ hg
    clear h₁ h₂
    subst e
    rw [dif_neg hg]
    exact key

end

variable (c : Dev nD) (t : Fin cfg0.N)

/-- The rows of the two sequences. -/
theorem blk0 (b : Fin 2) (i : Fin 8) (x : Fin 1664) : iblk m c 0 t (ix3 b i x) = Tok m c (ix3 (row t b) i x) := by
  obtain ⟨e0, e1, e2, e3, e4, e5, e6, e7, e8, e9, e10⟩ := idx t
  blk_ext [iblk, V, e0]

theorem blk1 (i : Fin 8) (x : Fin 128) : iblk m c 1 t (ix2 i x) = val_main_v25 (F := Ideal) (ix2 i ⟨x.val % 16, by omega⟩) := by
  obtain ⟨e0, e1, e2, e3, e4, e5, e6, e7, e8, e9, e10⟩ := idx t
  have hj : ((View.whole main_v17).slice (win0_1.rect t)).emb (ix2 i x) = ix2 i x := by blk_ext [e1]
  have hr : ∀ f : FVec Ideal S8x128 .f32, View.read (Elt Ideal) ((cfg0.win 1).blk t).view f (ix2 i x) = f (ix2 i x) := fun f => congrArg f hj
  exact (hr _).trans ((congrFun (V_eq m c main_v17) (ix2 i x)).trans (v17 _ (at_v3 _) (at_v2 _) i x))

theorem blk2 (i : Fin 8) (x : Fin 128) : iblk m c 2 t (ix2 i x) = val_main_v27 (F := Ideal) (ix2 i ⟨x.val % 16, by omega⟩) := by
  obtain ⟨e0, e1, e2, e3, e4, e5, e6, e7, e8, e9, e10⟩ := idx t
  have hj : ((View.whole main_v21).slice (win0_2.rect t)).emb (ix2 i x) = ix2 i x := by blk_ext [e2]
  have hr : ∀ f : FVec Ideal S8x128 .f32, View.read (Elt Ideal) ((cfg0.win 2).blk t).view f (ix2 i x) = f (ix2 i x) := fun f => congrArg f hj
  exact (hr _).trans ((congrFun (V_eq m c main_v21) (ix2 i x)).trans (v21 _ (at_v3 _) (at_v2 _) i x))

theorem blk3 (k x : Fin 128) : iblk m c 3 t (ix2 k x) = if h : k.val < 16 then W2 m c (ix2 ⟨k.val, h⟩ x) else (0 : EReal) := by
  obtain ⟨e0, e1, e2, e3, e4, e5, e6, e7, e8, e9, e10⟩ := idx t
  have hj : ((View.whole main_v35).slice (win0_3.rect t)).emb (ix2 k x) = ix2 k x := by blk_ext [e3]
  have hr : ∀ f : FVec Ideal S128x128 .bf16, View.read (Elt Ideal) ((cfg0.win 3).blk t).view f (ix2 k x) = f (ix2 k x) := fun f => congrArg f hj
  refine (hr _).trans ((congrFun (V_eq m c main_v35) (ix2 k x)).trans ((v35 _ k x).trans ?_))
  rw [at_arg3]

theorem blk4 (x : Fin 128) : iblk m c 4 t (ix2 0 x) = GB m c (ix1 x) := by
  obtain ⟨e0, e1, e2, e3, e4, e5, e6, e7, e8, e9, e10⟩ := idx t
  have hj : ((View.whole main_v36).slice (win0_4.rect t)).emb (ix2 0 x) = ix2 0 x := by blk_ext [e4]
  have hr : ∀ f : FVec Ideal S1x128 .f32, View.read (Elt Ideal) ((cfg0.win 4).blk t).view f (ix2 0 x) = f (ix2 0 x) := fun f => congrArg f hj
  refine (hr _).trans ((congrFun (V_eq m c main_v36) (ix2 0 x)).trans ((v36 _ x).trans ?_))
  rw [at_arg4]

theorem blk5 (x : Fin 128) : iblk m c 5 t (ix2 0 x) = val_main_v80 (F := Ideal) (ix1 ⟨x.val / 32, by omega⟩) := by
  obtain ⟨e0, e1, e2, e3, e4, e5, e6, e7, e8, e9, e10⟩ := idx t
  have hj : ((View.whole main_v32).slice (win0_5.rect t)).emb (ix2 0 x) = ix2 0 x := by blk_ext [e5]
  have hr : ∀ f : FVec Ideal S1x128 .f32, View.read (Elt Ideal) ((cfg0.win 5).blk t).view f (ix2 0 x) = f (ix2 0 x) := fun f => congrArg f hj
  exact (hr _).trans ((congrFun (V_eq m c main_v32) (ix2 0 x)).trans (v32 _ x))

theorem blk6 (y : Fin 256) : iblk m c 6 t (ix2 0 y) = GR m c (ix1 ⟨y.val % 64, by omega⟩) := by
  obtain ⟨e0, e1, e2, e3, e4, e5, e6, e7, e8, e9, e10⟩ := idx t
  have hj : ((View.whole main_v40).slice (win0_6.rect t)).emb (ix2 0 y) = ix2 0 y := by blk_ext [e6]
  have hr : ∀ f : FVec Ideal S1x256 .f32, View.read (Elt Ideal) ((cfg0.win 6).blk t).view f (ix2 0 y) = f (ix2 0 y) := fun f => congrArg f hj
  refine (hr _).trans ((congrFun (V_eq m c main_v40) (ix2 0 y)).trans ((v40 _ y).trans ?_))
  rw [at_arg5]

theorem blk7 (y : Fin 256) : iblk m c 7 t (ix2 0 y) = GG m c (ix1 ⟨y.val % 64, by omega⟩) := by
  obtain ⟨e0, e1, e2, e3, e4, e5, e6, e7, e8, e9, e10⟩ := idx t
  have hj : ((View.whole main_v44).slice (win0_7.rect t)).emb (ix2 0 y) = ix2 0 y := by blk_ext [e7]
  have hr : ∀ f : FVec Ideal S1x256 .f32, View.read (Elt Ideal) ((cfg0.win 7).blk t).view f (ix2 0 y) = f (ix2 0 y) := fun f => congrArg f hj
  refine (hr _).trans ((congrFun (V_eq m c main_v44) (ix2 0 y)).trans ((v44 _ y).trans ?_))
  rw [at_arg6]

theorem blk8 (b g : Fin 2) (x : Fin 128) (y : Fin 256) (s : EReal)
    (h₁ : g.val < 1 → s = SR m c (ix4 (row t b) ⟨x.val / 32, by omega⟩ ⟨x.val % 32, by omega⟩ ⟨y.val % 64, by omega⟩))
    (h₂ : ¬g.val < 1 → s = SG m c (ix4 (row t b) ⟨x.val / 32, by omega⟩ ⟨x.val % 32, by omega⟩ ⟨y.val % 64, by omega⟩)) :
    iblk m c 8 t (ix4 b g x y) = if x.val / 32 = y.val / 64 then s else (0 : EReal) := by
  obtain ⟨e0, e1, e2, e3, e4, e5, e6, e7, e8, e9, e10⟩ := idx t
  have hj : ((View.whole main_v71).slice (win0_8.rect t)).emb (ix4 b g x y) = ix4 (row t b) g x y := by blk_ext [e8]
  have hr : ∀ f : FVec Ideal S32x2x128x256 .f32, View.read (Elt Ideal) ((cfg0.win 8).blk t).view f (ix4 b g x y) = f (ix4 (row t b) g x y) :=
    fun f => congrArg f hj
  refine (hr _).trans ((congrFun (V_eq m c main_v71) (ix4 (row t b) g x y)).trans (v71 _ (row t b) g x y s ?_ ?_))
  · rw [at_arg1]
    exact h₁
  · rw [at_arg2]
    exact h₂

end Cert.Proof.LinHost

end
-- ==== Proof.LinLoads.lean ====
/- What one sequence's pieces of the kernel's blocks hold, and the four tensors computed from them. -/
module

public import proofs.«01_k».proof.Proof.LinPieces
public import proofs.«01_k».proof.Proof.LinHost

@[expose] public section

set_option maxRecDepth 16384

noncomputable section

namespace Cert.Proof.LinLoads

open Idealize.ShloMosaic Idealize.ShloMosaic.TcCoe Idealize.SL.Sem
open Cert.Kernel6Ideal Cert.Kernel6Ideal.Gen
open Cert.Reference6Ideal.Read
open Cert.Proof.LinHost Cert.Proof.LinPieces Cert.Proof.LinCore Cert.Proof.LinMasks Cert.Proof.LinScalars

/-- The columns of one sequence's rows from `o` on. -/
abbrev tile (X : FVec Ideal S2x8x1664 .f32) (b o w : Nat) (inb : ∀ a, ![b, 0, o] a + ![1, 8, w] a ≤ S2x8x1664.size a) : FVec Ideal ⟨3, ![1, 8, w]⟩ .f32 :=
  View.ld (Val := Elt Ideal) (e' := .f32) (S := S2x8x1664) X (Rect.unit ![b, 0, o] ![1, 8, w] inb)

/-- One layer's state of one sequence. -/
abbrev state (X : FVec Ideal S2x2x128x256 .f32) (b g : Nat) (inb : ∀ a, ![b, g, 0, 0] a + ![1, 1, 128, 256] a ≤ S2x2x128x256.size a) : FVec Ideal S1x1x128x256 .f32 :=
  View.ld (Val := Elt Ideal) (e' := .f32) (S := S2x2x128x256) (Gen.k0_pay2 (F := Ideal) X) (Rect.unit ![b, g, 0, 0] ![1, 1, 128, 256] inb)

theorem tile_eq (X : FVec Ideal S2x8x1664 .f32) (b o w : Nat) (hb : b < 2) (ho : o + w ≤ 1664) (inb : ∀ a, ![b, 0, o] a + ![1, 8, w] a ≤ S2x8x1664.size a)
    (i : Fin 8) (x : Fin w) : tile X b o w inb (ix3 0 i x) = X (ix3 ⟨b, hb⟩ i ⟨o + x.val, by omega⟩) := by
  refine congrArg X (funext fun a => Fin.ext ?_)
  match a with
  | ⟨0, _⟩ => rfl
  | ⟨1, _⟩ => show 0 + 1 * i.val = i.val; omega
  | ⟨2, _⟩ => show o + 1 * x.val = o + x.val; omega

theorem state_eq (X : FVec Ideal S2x2x128x256 .f32) (b g : Nat) (hb : b < 2) (hg : g < 2) (inb : ∀ a, ![b, g, 0, 0] a + ![1, 1, 128, 256] a ≤ S2x2x128x256.size a)
    (x : Fin 128) (y : Fin 256) : state X b g inb (ix4 0 0 x y) = X (ix4 ⟨b, hb⟩ ⟨g, hg⟩ x y) := by
  have e : ∀ j, Gen.k0_pay2 X j = X j := fun j => by
    idx_vars j
    pointwise [Gen.k0_pay2]
  refine (e _).trans (congrArg X (funext fun a => Fin.ext ?_))
  match a with
  | ⟨0, _⟩ => rfl
  | ⟨1, _⟩ => rfl
  | ⟨2, _⟩ => show 0 + 1 * x.val = x.val; omega
  | ⟨3, _⟩ => show 0 + 1 * y.val = y.val; omega

variable (m : (ℓ : Loc nD τ sig) → Buf (Elt Ideal) ℓ) (c : Dev nD) (t : Fin cfg0.N)

section
variable (h0 : ∀ n i x, Real' (Tok m c (ix3 n i x))) (h1 : ∀ n h d e, Real' (SR m c (ix4 n h d e))) (h2 : ∀ n h d e, Real' (SG m c (ix4 n h d e)))
  (h3 : ∀ k x, Real' (W2 m c (ix2 k x))) (h4 : ∀ x, Real' (GB m c (ix1 x)))
  (b : Nat) (hb : b < 2)

include hb in
/-- A column of one sequence's rows. -/
theorem tok_eq (o w o' : Nat) (ho : o + w ≤ 1664) (inb : ∀ a, ![b, o', o] a + ![1, 8, w] a ≤ S2x8x1664.size a) (e : o' = 0) (i : Fin 8) (x : Fin w) :
    (View.ld (Val := Elt Ideal) (e' := .f32) (S := S2x8x1664) (iblk m c 0 t) (Rect.unit ![b, o', o] ![1, 8, w] inb) : FVec Ideal ⟨3, ![1, 8, w]⟩ .f32) (ix3 0 i x)
      = Tok m c (ix3 (row t ⟨b, hb⟩) i ⟨o + x.val, by omega⟩) := by
  subst e
  exact (tile_eq _ b o w hb ho inb i x).trans (blk0 m c t ⟨b, hb⟩ i ⟨o + x.val, by omega⟩)

theorem ret_state (inb) (x : Fin 128) (y : Fin 256) :
    state (iblk m c 8 t) b 0 inb (ix4 0 0 x y) = if x.val / 32 = y.val / 64 then SR m c (ix4 (row t ⟨b, hb⟩) (kh x) (kp x) (vp y)) else (0 : EReal) :=
  (state_eq _ b 0 hb (by decide) inb x y).trans (blk8 m c t ⟨b, hb⟩ ⟨0, by decide⟩ x y _ (fun _ => rfl) (fun h => absurd (by decide) h))

theorem gla_state (inb) (x : Fin 128) (y : Fin 256) :
    state (iblk m c 8 t) b 1 inb (ix4 0 0 x y) = if x.val / 32 = y.val / 64 then SG m c (ix4 (row t ⟨b, hb⟩) (kh x) (kp x) (vp y)) else (0 : EReal) :=
  (state_eq _ b 1 hb (by decide) inb x y).trans (blk8 m c t ⟨b, hb⟩ ⟨1, by decide⟩ x y _ (fun h => absurd h (by decide)) (fun _ => rfl))

include h0 h1 in
/-- The retention's output of one sequence. -/
theorem ret_out (i1 i2 i3 i4 i5) (j : S1x8x256.Idx) :
    retOut (F := Ideal) meanV Gen.k0_pay4 headK Gen.k0_pay10 (tile (iblk m c 0 t) b 0 128 i1) (tile (iblk m c 0 t) b 128 128 i2) (tile (iblk m c 0 t) b 256 256 i3)
        (tile (iblk m c 0 t) b 512 256 i4) (iblk m c 1 t) (iblk m c 2 t) (iblk m c 5 t) (iblk m c 6 t) (state (iblk m c 8 t) b 0 i5) j
      = val_main_v126 (F := Ideal) (Tok m c) (SR m c) (GR m c) (ix3 (row t ⟨b, hb⟩) (j 1) (j 2)) := by
  idx_vars j
  obtain rfl : j0 = 0 := Subsingleton.elim _ _
  refine retOut_eq (h0 := fun i x => h0 _ i x) (h1 := fun h d e => h1 _ h d e) (hs := ret_state m c t b hb i5) (hgain := fun y => blk6 m c t y)
    (hc := fun i x => blk1 m c t i x) (hn := fun i x => blk2 m c t i x) (hr := fun x => blk5 m c t x) (htq := fun i x => ?_)
    (htk := fun i x => tok_eq m c t b hb 128 128 0 (by decide) i2 rfl i x) (htv := fun i x => tok_eq m c t b hb 256 256 0 (by decide) i3 rfl i x)
    (htz := fun i x => tok_eq m c t b hb 512 256 0 (by decide) i4 rfl i x) ..
  exact (tok_eq m c t b hb 0 128 0 (by decide) i1 rfl i x).trans (congrArg (Tok m c) (congrArg (ix3 _ i) (Fin.ext (Nat.zero_add _))))

/-- The retention's state of one sequence. -/
theorem ret_next (i2 i3 i5) (j : S1x1x128x256.Idx) :
    retState (F := Ideal) diag (tile (iblk m c 0 t) b 128 128 i2) (tile (iblk m c 0 t) b 256 256 i3)
        (iblk m c 1 t) (iblk m c 2 t) (iblk m c 5 t) (state (iblk m c 8 t) b 0 i5) j
      = if (j 2).val / 32 = (j 3).val / 64 then val_main_v107 (F := Ideal) (Tok m c) (SR m c) (ix4 (row t ⟨b, hb⟩) (kh (j 2)) (kp (j 2)) (vp (j 3))) else (0 : EReal) := by
  idx_vars j
  obtain rfl : j0 = 0 := Subsingleton.elim _ _
  obtain rfl : j1 = 0 := Subsingleton.elim _ _
  exact retState_eq (hs := ret_state m c t b hb i5)
    (hc := fun i x => blk1 m c t i x) (hn := fun i x => blk2 m c t i x) (hr := fun x => blk5 m c t x)
    (htk := fun i x => tok_eq m c t b hb 128 128 0 (by decide) i2 rfl i x) (htv := fun i x => tok_eq m c t b hb 256 256 0 (by decide) i3 rfl i x) ..

include h0 h2 h3 h4 in
/-- The gated recurrence's output of one sequence. -/
theorem gla_out (i1 i2 i3 i4 i5 i6) (j : S1x8x256.Idx) :
    glaOut (F := Ideal) meanV Gen.k0_pay4 headK Gen.k0_pay10 (tile (iblk m c 0 t) b 768 128 i1) (tile (iblk m c 0 t) b 896 128 i2) (tile (iblk m c 0 t) b 1536 128 i6)
        (tile (iblk m c 0 t) b 1024 256 i3) (tile (iblk m c 0 t) b 1280 256 i4) (iblk m c 4 t) (iblk m c 7 t) (iblk m c 3 t) (state (iblk m c 8 t) b 1 i5) j
      = val_main_v182 (F := Ideal) (Tok m c) (SG m c) (W2 m c) (GB m c) (GG m c) (ix3 (row t ⟨b, hb⟩) (j 1) (j 2)) := by
  idx_vars j
  obtain rfl : j0 = 0 := Subsingleton.elim _ _
  exact glaOut_eq (h0 := fun i x => h0 _ i x) (h1 := fun h d e => h2 _ h d e) (h3 := h3) (h4 := h4) (hs := gla_state m c t b hb i5) (hgain := fun y => blk7 m c t y)
    (hw := fun k x => blk3 m c t k x) (hb := fun x => blk4 m c t x)
    (htq := fun i x => tok_eq m c t b hb 768 128 0 (by decide) i1 rfl i x) (htk := fun i x => tok_eq m c t b hb 896 128 0 (by decide) i2 rfl i x)
    (htv := fun i x => tok_eq m c t b hb 1024 256 0 (by decide) i3 rfl i x) (htz := fun i x => tok_eq m c t b hb 1280 256 0 (by decide) i4 rfl i x)
    (htg := fun i x => tok_eq m c t b hb 1536 128 0 (by decide) i6 rfl i x) ..

include h0 h3 h4 in
/-- The gated recurrence's state of one sequence. -/
theorem gla_next (i2 i3 i5 i6) (j : S1x1x128x256.Idx) :
    glaState (F := Ideal) diag (tile (iblk m c 0 t) b 896 128 i2) (tile (iblk m c 0 t) b 1536 128 i6) (tile (iblk m c 0 t) b 1024 256 i3)
        (iblk m c 4 t) (iblk m c 3 t) (state (iblk m c 8 t) b 1 i5) j
      = if (j 2).val / 32 = (j 3).val / 64 then
          val_main_v163 (F := Ideal) (Tok m c) (SG m c) (W2 m c) (GB m c) (ix4 (row t ⟨b, hb⟩) (kh (j 2)) (kp (j 2)) (vp (j 3))) else (0 : EReal) := by
  idx_vars j
  obtain rfl : j0 = 0 := Subsingleton.elim _ _
  obtain rfl : j1 = 0 := Subsingleton.elim _ _
  exact glaState_eq (h0 := fun i x => h0 _ i x) (h3 := h3) (h4 := h4) (hs := gla_state m c t b hb i5)
    (hw := fun k x => blk3 m c t k x) (hb := fun x => blk4 m c t x)
    (htk := fun i x => tok_eq m c t b hb 896 128 0 (by decide) i2 rfl i x) (htv := fun i x => tok_eq m c t b hb 1024 256 0 (by decide) i3 rfl i x)
    (htg := fun i x => tok_eq m c t b hb 1536 128 0 (by decide) i6 rfl i x) ..

end

end Cert.Proof.LinLoads

end
-- ==== Proof.LinJoin.lean ====
/- How the reference joins the two layers: outputs side by side, states one block on the diagonal per head. -/
module

public import proofs.«01_k».proof.Proof.LinRef
public import proofs.«01_k».proof.Proof.LinHost

@[expose] public section

set_option maxRecDepth 16384

noncomputable section

namespace Cert.Proof.LinJoin

open Idealize.ShloMosaic Idealize.ShloMosaic.TcCoe
open Cert.Reference6Ideal Cert.Reference6Ideal.Gen Cert.Reference6Ideal.Read
open Cert.Proof.LinCore Cert.Proof.LinRef

variable (x0 : FVec Ideal S32x8x1664 .f32) (x1 x2 : FVec Ideal S32x4x32x64 .f32) (x3 : FVec Ideal S16x128 .f32) (x4 : FVec Ideal S128 .f32) (x5 x6 : FVec Ideal S64 .f32)

/-- The first half of the outputs is the retention's. -/
theorem out_ret (n : Fin 32) (i : Fin 8) (y : Fin 256) :
    val_main_v195 (F := Ideal) x0 x1 x2 x3 x4 x5 x6 (ix3 n i ⟨y.val, by omega⟩) = val_main_v126 (F := Ideal) x0 x1 x5 (ix3 n i y) := by
  pointwise [val_main_v195, val_main_v194]

/-- The second half of the outputs is the gated recurrence's. -/
theorem out_gla (n : Fin 32) (i : Fin 8) (y : Fin 256) :
    val_main_v195 (F := Ideal) x0 x1 x2 x3 x4 x5 x6 (ix3 n i ⟨256 + y.val, by omega⟩) = val_main_v182 (F := Ideal) x0 x2 x3 x4 x6 (ix3 n i y) := by
  pointwise [val_main_v195, val_main_v194]

/-- A choice on a comparison of two head numbers. -/
theorem choose (a b : Nat) (ha : a < 4) (hb : b < 4) (s z : EReal) :
    (if IntOp.cmpi CmpIPredicate.eq (IntOp.addi (BitVec.ofNat 32 a) 0#32) (BitVec.ofNat 32 b) = 1#1 then s else z) = if a = b then s else z := by
  refine if_congr ?_ rfl rfl
  interval_cases a <;> interval_cases b <;> decide

/-- The states: the retention's and the gated recurrence's, each head's block on the diagonal. -/
theorem states (n : Fin 32) (g : Fin 2) (x : Fin 128) (y : Fin 256) (s : EReal)
    (h₁ : g.val < 1 → s = val_main_v107 (F := Ideal) x0 x1 (ix4 n (kh x) (kp x) (vp y)))
    (h₂ : ¬g.val < 1 → s = val_main_v163 (F := Ideal) x0 x2 x3 x4 (ix4 n (kh x) (kp x) (vp y))) :
    val_main_v196 (F := Ideal) x0 x1 x2 x3 x4 (ix4 n g x y) = if x.val / 32 = y.val / 64 then s else (0 : EReal) := by
  have hx : x.val / 32 < 4 := by omega
  have hy : y.val / 64 < 4 := by omega
  have key := choose (x.val / 32) (y.val / 64) hx hy s 0
  generalize (if x.val / 32 = y.val / 64 then s else (0 : EReal)) = R at key ⊢
  pointwise [val_main_v196, val_main_v193, val_main_call11_v0, val_main_call11_v1, val_main_call11_v2, val_main_call11_v3, val_main_cst_24, val_main_v192, val_main_v191, val_main_v190, val_main_v189, val_main_v188, val_main_v187, val_main_v186, val_main_v185, val_main_v184, val_main_v183, val_main_c_23]
  have hz : (id (constant S_ .f32 0x00000000#32) : FVec Ideal S_ .f32) ix0 = (0 : EReal) := zero_id
  by_cases hg : g.val < 1
  · have e := h₁ hg
    clear h₁ h₂
    subst e
    rw [dif_pos hg]
    exact (congrArg (Scalar.select _ _) hz).trans key
  · have e := h₂ hg
    clear h₁ h₂
    subst e
    rw [dif_neg hg]
    exact (congrArg (Scalar.select _ _) hz).trans key

end Cert.Proof.LinJoin

end
-- ==== Proof.LinOuts.lean ====
/- The kernel's first result, the outputs, is the reference's. -/
module

public import proofs.«01_k».proof.Defs
public import proofs.«01_k».proof.Proof.LinLoads
public import proofs.«01_k».proof.Proof.LinJoin
public import proofs.«01_k».proof.Proof.Gen.Kernel6Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.LinOuts

open Idealize.ShloMosaic Idealize.ShloMosaic.TcCoe Idealize.SL.Sem
open Idealize.ShloMosaic.Pipeline (Dat)
open Cert.Kernel6Ideal Cert.Kernel6Ideal.Gen
open Cert.Reference6Ideal.Read
open Cert.Proof.LinHost Cert.Proof.LinPieces Cert.Proof.LinLoads Cert.Proof.LinCore Cert.Proof.LinMasks Cert.Proof.LinScalars

variable (m : (ℓ : Loc nD τ sig) → Buf (Elt Ideal) ℓ) (c : Dev nD)

section
variable (r0 : ∀ n i x, Real' (Tok m c (ix3 n i x))) (r1 : ∀ n h d e, Real' (SR m c (ix4 n h d e))) (r2 : ∀ n h d e, Real' (SG m c (ix4 n h d e)))
  (r3 : ∀ k x, Real' (W2 m c (ix2 k x))) (r4 : ∀ x, Real' (GB m c (ix1 x)))

/-- The reference's outputs. -/
abbrev outs : FVec Ideal S32x8x512 .bf16 := val_main_v195 (F := Ideal) (Tok m c) (SR m c) (SG m c) (W2 m c) (GB m c) (GR m c) (GG m c)

theorem outs_ret (n : Fin 32) (i : Fin 8) (y : Fin 256) (h : y.val < 512) :
    val_main_v126 (F := Ideal) (Tok m c) (SR m c) (GR m c) (ix3 n i y) = outs m c (ix3 n i ⟨y.val, h⟩) :=
  (LinJoin.out_ret (Tok m c) (SR m c) (SG m c) (W2 m c) (GB m c) (GR m c) (GG m c) n i y).symm

theorem outs_gla (n : Fin 32) (i : Fin 8) (y : Fin 256) (h : 256 + y.val < 512) :
    val_main_v182 (F := Ideal) (Tok m c) (SG m c) (W2 m c) (GB m c) (GG m c) (ix3 n i y) = outs m c (ix3 n i ⟨256 + y.val, h⟩) :=
  (LinJoin.out_gla (Tok m c) (SR m c) (SG m c) (W2 m c) (GB m c) (GR m c) (GG m c) n i y).symm

set_option maxHeartbeats 1000000 in
include r0 r1 r2 r3 r4 in
/-- The kernel's first result is the reference's. -/
theorem final9 : (dats (F := Ideal) m 0 c).arrAt 9 cfg0.N = outs m c := by
  refine (dats m 0 c).arrAt_eq_of_covers 9 _ (by decide +kernel) fun t hf y => ?_
  have f9 := (idx t).2.2.2.2.2.2.2.2.2.1
  blk_simp
  rw [after0_9]
  unfold outsAt0
  dsimp only
  unfold out0_A_9
  frame_open
  simp (disch := decide) only [↓ View.readCov_skip, ↓ View.readCov_cons_toLoadRect, ↓ View.readCov_fill]
  frame_out
  canon_tiles y
  · rename_i z
    refine Eq.trans ?_ ((gla_out m c t r0 r2 r3 r4 1 (by decide) inb_S2x8x1664_S1x8x128_1_0_768 inb_S2x8x1664_S1x8x128_1_0_896
      inb_S2x8x1664_S1x8x256_1_0_1024 inb_S2x8x1664_S1x8x256_1_0_1280 inb_S2x2x128x256_S1x1x128x256_1_1_0_0 inb_S2x8x1664_S1x8x128_1_0_1536 y).trans
      ((outs_gla m c _ _ (y 2) (by omega)).trans (congrArg (outs m c) (Eq.symm ?_))))
    · rfl
    · blk_ext [f9, h0, h1, h2]
  · rename_i z
    refine Eq.trans ?_ ((ret_out m c t r0 r1 1 (by decide) inb_S2x8x1664_S1x8x128_1_0_0 inb_S2x8x1664_S1x8x128_1_0_128
      inb_S2x8x1664_S1x8x256_1_0_256 inb_S2x8x1664_S1x8x256_1_0_512 inb_S2x2x128x256_S1x1x128x256_1_0_0_0 y).trans
      ((outs_ret m c _ _ (y 2) (by omega)).trans (congrArg (outs m c) (Eq.symm ?_))))
    · rfl
    · blk_ext [f9, h0, h1, h2]
  · rename_i z
    refine (gla_out m c t r0 r2 r3 r4 0 (by decide) _ _ _ _ _ _ y).trans ((outs_gla m c _ _ (y 2) (by omega)).trans (congrArg (outs m c) (Eq.symm ?_)))
    blk_ext [f9, h0, h1, h2]
  · rename_i z
    refine (ret_out m c t r0 r1 0 (by decide) _ _ _ _ _ y).trans ((outs_ret m c _ _ (y 2) (by omega)).trans (congrArg (outs m c) (Eq.symm ?_)))
    blk_ext [f9, h0, h1, h2]

end

end Cert.Proof.LinOuts

end
-- ==== Proof.LinStates.lean ====
/- The kernel's second result, the states, is the reference's. -/
module

public import proofs.«01_k».proof.Defs
public import proofs.«01_k».proof.Proof.LinLoads
public import proofs.«01_k».proof.Proof.LinJoin
public import proofs.«01_k».proof.Proof.Gen.Kernel6Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.LinStates

open Idealize.ShloMosaic Idealize.ShloMosaic.TcCoe Idealize.SL.Sem
open Idealize.ShloMosaic.Pipeline (Dat)
open Cert.Kernel6Ideal Cert.Kernel6Ideal.Gen
open Cert.Reference6Ideal.Read
open Cert.Proof.LinHost Cert.Proof.LinPieces Cert.Proof.LinLoads Cert.Proof.LinCore Cert.Proof.LinMasks Cert.Proof.LinScalars

variable (m : (ℓ : Loc nD τ sig) → Buf (Elt Ideal) ℓ) (c : Dev nD)

section
variable (r0 : ∀ n i x, Real' (Tok m c (ix3 n i x))) (r1 : ∀ n h d e, Real' (SR m c (ix4 n h d e))) (r2 : ∀ n h d e, Real' (SG m c (ix4 n h d e)))
  (r3 : ∀ k x, Real' (W2 m c (ix2 k x))) (r4 : ∀ x, Real' (GB m c (ix1 x)))

/-- The reference's states. -/
abbrev nexts : FVec Ideal S32x2x128x256 .f32 := val_main_v196 (F := Ideal) (Tok m c) (SR m c) (SG m c) (W2 m c) (GB m c)

/-- Stores that cover an index hide the earlier ones there. -/
theorem canon_append {S : Shape} {e : EltTy} (L' : List (View.Piece (Elt Ideal) S e)) : ∀ (L : List (View.Piece (Elt Ideal) S e)) (y : S.Idx),
    (∃ p ∈ L, y ∈ p.1.set) → View.canon (L ++ L') y = View.canon L y
  | [], _, h => by
    obtain ⟨p, hp, _⟩ := h
    exact absurd hp List.not_mem_nil
  | p :: L, y, h => by
    by_cases hm : y ∈ p.1.set
    · obtain ⟨x, rfl⟩ := p.1.exists_idx_of_mem hm
      exact (View.canon_cons_emb _ _ _ x).trans (View.canon_cons_emb _ _ _ x).symm
    · rw [List.cons_append, View.canon_cons_of_not_mem _ _ hm, View.canon_cons_of_not_mem _ _ hm]
      obtain ⟨q, hq, hy⟩ := h
      rcases List.mem_cons.mp hq with rfl | hq
      · exact absurd hy hm
      · exact canon_append L' L y ⟨q, hq, hy⟩

/-- The states' block read back whole, after four stores that cover it and one earlier one. -/
theorem read_back {σ : RefSig} {κ : Kind} {sp : Space} (v : View σ κ sp S2x2x128x256 .f32) (a b d e z : View.Piece (Elt Ideal) S2x2x128x256 .f32)
    (inb : ∀ a, ![0, 0, 0, 0] a + ![2, 2, 128, 256] a ≤ S2x2x128x256.size a) (y : S2x2x128x256.Idx) (h : ∃ p ∈ [a, b, d, e], y ∈ p.1.set) :
    v.readCov [a, b, d, e, z] (Rect.unit (s := S2x2x128x256) ![0, 0, 0, 0] ![2, 2, 128, 256] inb).toLoadRect y = View.canon [a, b, d, e] y := by
  rw [View.readCov_eq_canon']
  have hy : (Rect.unit (s := S2x2x128x256) ![0, 0, 0, 0] ![2, 2, 128, 256] inb).toLoadRect.idx y = y := funext fun a => Fin.ext (by
    show ![0, 0, 0, 0] a + 1 * (y a).val = (y a).val
    have : (![0, 0, 0, 0] : Fin 4 → Nat) a = 0 := by revert a; decide
    rw [this]
    omega)
  show View.canon ([a, b, d, e] ++ [z]) ((Rect.unit (s := S2x2x128x256) ![0, 0, 0, 0] ![2, 2, 128, 256] inb).toLoadRect.idx y) = _
  rw [hy]
  exact canon_append [z] [a, b, d, e] y h

theorem nexts_ret (n : Fin 32) (x : Fin 128) (y : Fin 256) :
    (if x.val / 32 = y.val / 64 then val_main_v107 (F := Ideal) (Tok m c) (SR m c) (ix4 n (kh x) (kp x) (vp y)) else (0 : EReal)) = nexts m c (ix4 n 0 x y) :=
  (LinJoin.states (Tok m c) (SR m c) (SG m c) (W2 m c) (GB m c) n 0 x y _ (fun _ => rfl) (fun h => absurd (by decide) h)).symm

theorem nexts_gla (n : Fin 32) (x : Fin 128) (y : Fin 256) :
    (if x.val / 32 = y.val / 64 then val_main_v163 (F := Ideal) (Tok m c) (SG m c) (W2 m c) (GB m c) (ix4 n (kh x) (kp x) (vp y)) else (0 : EReal))
      = nexts m c (ix4 n 1 x y) :=
  (LinJoin.states (Tok m c) (SR m c) (SG m c) (W2 m c) (GB m c) n 1 x y _ (fun h => absurd h (by decide)) (fun _ => rfl)).symm

set_option maxHeartbeats 1000000 in
include r0 r3 r4 in
/-- The kernel's second result is the reference's. -/
theorem final10 : (dats (F := Ideal) m 0 c).arrAt 10 cfg0.N = nexts m c := by
  refine (dats m 0 c).arrAt_eq_of_covers 10 _ (by decide +kernel) fun t hf y => ?_
  have f10 := (idx t).2.2.2.2.2.2.2.2.2.2
  blk_simp
  rw [after0_10]
  unfold outsAt0
  dsimp only
  unfold out0_A_10
  frame_open
  simp (disch := decide) only [↓ View.readCov_skip, ↓ View.readCov_cons_toLoadRect, ↓ View.readCov_fill]
  frame_out
  refine (read_back _ _ _ _ _ _ _ y ?_).trans ?_
  · set_option maxRecDepth 1000000 in exact View.cover_of_tiled_head _ _ _ (by rfl) _
  canon_tiles y
  · rename_i z
    refine Eq.trans ?_ ((gla_next m c t r0 r3 r4 1 (by decide) inb_S2x8x1664_S1x8x128_1_0_896
      inb_S2x8x1664_S1x8x256_1_0_1024 inb_S2x2x128x256_S1x1x128x256_1_1_0_0 inb_S2x8x1664_S1x8x128_1_0_1536 y).trans
      ((nexts_gla m c _ (y 2) (y 3)).trans (congrArg (nexts m c) (Eq.symm ?_))))
    · rfl
    · blk_ext [f10, h0, h1, h2, h3]
  · rename_i z
    refine Eq.trans ?_ ((ret_next m c t 1 (by decide) inb_S2x8x1664_S1x8x128_1_0_128
      inb_S2x8x1664_S1x8x256_1_0_256 inb_S2x2x128x256_S1x1x128x256_1_0_0_0 y).trans
      ((nexts_ret m c _ (y 2) (y 3)).trans (congrArg (nexts m c) (Eq.symm ?_))))
    · rfl
    · blk_ext [f10, h0, h1, h2, h3]
  · rename_i z
    refine (gla_next m c t r0 r3 r4 0 (by decide) _ _ _ _ y).trans ((nexts_gla m c _ (y 2) (y 3)).trans (congrArg (nexts m c) (Eq.symm ?_)))
    blk_ext [f10, h0, h1, h2, h3]
  · rename_i z
    refine (ret_next m c t 0 (by decide) _ _ _ y).trans ((nexts_ret m c _ (y 2) (y 3)).trans (congrArg (nexts m c) (Eq.symm ?_)))
    blk_ext [f10, h0, h1, h2, h3]

end

end Cert.Proof.LinStates

end
-- ==== Proof.LinFinite.lean ====
/- What the precondition says of the arguments: every entry is a real number. -/
module

public import proofs.«01_k».proof.Defs
public import proofs.«01_k».proof.Proof.LinHost
public import proofs.«01_k».proof.Proof.LinScalars

@[expose] public section

set_option maxRecDepth 16384

noncomputable section

namespace Cert.Proof.LinFinite

open Idealize.ShloMosaic Idealize.ShloMosaic.TcCoe Idealize.SL.Sem
open Cert.Kernel6Ideal
open Cert.Proof.LinHost Cert.Proof.LinScalars

theorem bcast_S_S32x8x1664 : Cert.Pre_finite.S_.BroadcastsInDim Cert.Pre_finite.S32x8x1664 (![] : Fin 0 → Fin Cert.Pre_finite.S32x8x1664.rank) := by decide
theorem bcast_S_S32x4x32x64 : Cert.Pre_finite.S_.BroadcastsInDim Cert.Pre_finite.S32x4x32x64 (![] : Fin 0 → Fin Cert.Pre_finite.S32x4x32x64.rank) := by decide
theorem bcast_S_S16x128 : Cert.Pre_finite.S_.BroadcastsInDim Cert.Pre_finite.S16x128 (![] : Fin 0 → Fin Cert.Pre_finite.S16x128.rank) := by decide
theorem bcast_S_S128 : Cert.Pre_finite.S_.BroadcastsInDim Cert.Pre_finite.S128 (![] : Fin 0 → Fin Cert.Pre_finite.S128.rank) := by decide

/-- The shape relations of the precondition hold. -/
theorem facts : Cert.Pre_finite.Facts where
  bcast_S_S32x8x1664 := bcast_S_S32x8x1664
  bcast_S_S32x4x32x64 := bcast_S_S32x4x32x64
  bcast_S_S16x128 := bcast_S_S16x128
  bcast_S_S128 := bcast_S_S128

theorem inf : (FloatOps.ofBits (F := Ideal) .f32 0x7F800000#32 : EReal) = ⊤ := by
  show Ideal.ofBits .f32 0x7F800000#32 = ⊤
  have s : BitVec.extractLsb' 31 1 (0x7F800000#32 : BitVec 32) = 0#1 := by decide
  norm_num [Ideal.ofBits, Ideal.ieee, s, Nat.shiftRight_eq_div_pow]

/-- An array whose magnitudes all compare below infinity holds real numbers. -/
theorem real {S : Shape} (x : FVec Ideal S .f32) (f : Cert.Pre_finite.S_.BroadcastsInDim S (![] : Fin 0 → Fin S.rank))
    (h : cmpf .olt (Host.absf x) (broadcastInDim S ![] f (constant Cert.Pre_finite.S_ .f32 0x7F800000#32)) = fun _ => 1#1) (j : S.Idx) : Real' (x j) := by
  have e := congrFun h j
  change Ideal.cmp .olt (max (x j) (-(x j)) : EReal) (FloatOps.ofBits (F := Ideal) .f32 0x7F800000#32 : EReal) = 1#1 at e
  rw [inf] at e
  refine real_of_lt ?_
  by_contra hn
  have : Ideal.cmp .olt (max (x j) (-(x j)) : EReal) ⊤ = 0#1 := by
    simp only [Ideal.cmp, hn, decide_false, BitVec.ofBool_false]
    rfl
  rw [this] at e
  exact absurd e (by decide)

/-- Under the precondition the arguments hold real numbers. -/
theorem reals (m : (ℓ : Loc nD τ sig) → Buf (Elt Ideal) ℓ) (h : Cert.Pre_Kernel6Ideal_finite (hPre_finite := facts) m) (c : Dev nD) :
    (∀ j, Real' (Tok m c j)) ∧ (∀ j, Real' (SR m c j)) ∧ (∀ j, Real' (SG m c j)) ∧ (∀ j, Real' (W2 m c j)) ∧ ∀ j, Real' (GB m c j) := by
  obtain ⟨a, b, d, e, f⟩ := h c
  exact ⟨real _ _ a, real _ _ b, real _ _ d, real _ _ e, real _ _ f⟩

end Cert.Proof.LinFinite

end
-- ==== Proof.LinSample.lean ====
/- The linear recurrences over one chunk: the kernel's two results are the reference's. -/
module

public import proofs.«01_k».proof.Defs
public import proofs.«01_k».proof.Proof.LinOuts
public import proofs.«01_k».proof.Proof.LinStates
public import proofs.«01_k».proof.Proof.LinFinite
public import proofs.«01_k».proof.Proof.Gen.Kernel6Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.LinSample

open Idealize.ShloMosaic Idealize.ShloMosaic.TcCoe Idealize.SL.Sem
open Idealize.ShloMosaic.Pipeline (Dat)
open Cert.Kernel6Ideal Cert.Kernel6Ideal.Gen
open Cert.Reference6Ideal.Read
open Cert.Proof.LinOuts Cert.Proof.LinStates

/-- Both programs run, and from equal arguments that are real numbers both results are equal. -/
theorem algebraic : Cert.algebraic_Kernel6Ideal_Reference6Ideal_pre_finite (hKernel6Ideal := Cert.Kernel6Ideal.Gen.facts)
    (hReference6Ideal := Cert.Reference6Ideal.Gen.facts) (hPre_finite := LinFinite.facts) := by
  intro m ρ m' ρ' hp hag
  refine ⟨fun c => outs m c, fun c => nexts m c, ?_, ?_⟩
  · refine (θ_run (Cert.Kernel6Ideal.defs (F := Ideal)) _ _).mono (fun r h c => ?_) (Cert.Kernel6Ideal.Value.run_blocks (F := Ideal) m ρ)
    obtain ⟨r0, r1, r2, r3, r4⟩ := LinFinite.reals m hp c
    obtain ⟨h9, h10, h⟩ := h c
    exact ⟨h9.trans (final9 m c (fun _ _ _ => r0 _) (fun _ _ _ _ => r1 _) (fun _ _ _ _ => r2 _) (fun _ _ => r3 _) fun _ => r4 _),
      h10.trans (final10 m c (fun _ _ _ => r0 _) (fun _ _ => r3 _) fun _ => r4 _), h⟩
  · refine (θ_run (Cert.Reference6Ideal.defs (F := Ideal)) _ _).mono (fun r h c => ?_) (Cert.Reference6Ideal.Value.run (F := Ideal) m' ρ')
    obtain ⟨h9, h10, h⟩ := h c
    obtain ⟨a0, a1, a2, a3, a4, a5, a6⟩ := hag c
    refine ⟨(h9.trans (val_main_v195_eq _)).trans ?_, (h10.trans (val_main_v196_eq _)).trans ?_, h⟩
    · exact congr (congr (congr (congr (congr (congr (congrArg (val_main_v195 (F := Ideal)) a0) a1) a2) a3) a4) a5) a6
    · exact congr (congr (congr (congr (congrArg (val_main_v196 (F := Ideal)) a0) a1) a2) a3) a4

end Cert.Proof.LinSample

end
-- ==== Proof.Inproj.lean ====
/- The input projection: the tiled kernel's four results are the reference's four results. -/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Proof.Inproj

open Idealize.ShloMosaic Idealize.ShloMosaic.TcCoe Idealize.SL.Sem
open Idealize.ShloMosaic.Pipeline (Dat)
open Cert.Reference3Ideal.Read (val_main_v22 val_main_v21 val_main_v20 val_main_v19 val_main_v18 val_main_cst_2 val_main_v17
  val_main_v16 val_main_v15 val_main_v14 val_main_v13 val_main_v12 val_main_v11 val_main_v10 val_main_v9
  val_main_v8 val_main_v7 val_main_v6 val_main_v5 val_main_cst_1 val_main_v4 val_main_v3 val_main_cst_0 val_main_v2
  val_main_v1 val_main_cst val_main_v0 val_main_v19_eq val_main_v20_eq val_main_v21_eq val_main_v22_eq)
open Cert.Kernel3Ideal Cert.Kernel3Ideal.Gen

variable (m : (ℓ : Loc nD τ sig) → Buf (Elt Ideal) ℓ)

abbrev X (c : Dev nD) : FVec Ideal S2x8192x1024 .f32 := m ((c : Thread nD τ).loc main_arg0)
abbrev G (c : Dev nD) : FVec Ideal S1024 .f32 := m ((c : Thread nD τ).loc main_arg1)
abbrev W (c : Dev nD) : FVec Ideal S1024x3088 .f32 := m ((c : Thread nD τ).loc main_arg2)

/-- Which blocks the windows of one grid point are. -/
theorem idx : ∀ t : Fin cfg0.N, win0_0.index t = win0_6.index t ∧ win0_0.index t 2 = 0 ∧ win0_1.index t = ![0, 0]
   ∧ win0_2.index t = ![0, 0] ∧ win0_3.index t = ![0, 0] ∧ win0_4.index t = ![0, 0] ∧ win0_5.index t = ![0, 0]
   ∧ win0_7.index t = ![win0_0.index t 0, 0, win0_0.index t 1]
   ∧ win0_8.index t = ![win0_0.index t 0, 0, win0_0.index t 1]
   ∧ win0_9.index t = ![win0_0.index t 0, 0, win0_0.index t 1] := by
  decide +kernel

/-- One normalised row of the input, in the block of a grid point, is the reference's normalised row of the array. -/
theorem norm_row (b0 : FVec Ideal S1x512x1024 .f32) (b1 : FVec Ideal S1x1024 .f32) (x : FVec Ideal S2x8192x1024 .f32)
    (g : FVec Ideal S1024 .f32) (r : Fin 512) (a : Fin 2) (s : Fin 8192)
    (h0 : ∀ k, b0 (ix3 0 r k) = x (ix3 a s k)) (h1 : ∀ k, b1 (ix2 0 k) = g (ix1 k)) (k : Fin 1024) :
    Gen.k0_pay3 (F := Ideal) b0 b1 (ix2 r k) = val_main_v12 (F := Ideal) x g (ix3 a s k) := by
  pointwise [Gen.k0_pay3, val_main_v12, val_main_v11, val_main_v10,
    val_main_v9, val_main_v8, val_main_v7, val_main_v6, val_main_v5, val_main_cst_1, val_main_v4, val_main_v3,
    val_main_cst_0, val_main_v2, val_main_v1, val_main_cst, val_main_v0]
  simp only [h0, h1]

/-- The rows and the gain of grid point `t`'s blocks, and where the blocks lie in their arrays. -/
theorem reads (c : Dev nD) (t : Fin cfg0.N) : ∃ (a : Fin 2) (q : Fin 16), win0_0.index t 0 = a.val ∧ win0_0.index t 1 = q.val
    ∧ (∀ (r : Fin 512) (s : Fin 8192), s.val = q.val * 512 + r.val → ∀ k, iblk m c 0 t (ix3 0 r k) = X m c (ix3 a s k))
    ∧ ∀ k, iblk m c 1 t (ix2 0 k) = G m c (ix1 k) := by
  obtain ⟨e0, e1, e2, e3, e4, e5, e6, e7, e8, e9⟩ := idx t
  obtain ⟨ha, hq⟩ : win0_0.index t 0 < 2 ∧ win0_0.index t 1 < 16 :=
    (by decide +kernel : ∀ t : Fin cfg0.N, win0_0.index t 0 < 2 ∧ win0_0.index t 1 < 16) t
  refine ⟨⟨_, ha⟩, ⟨_, hq⟩, rfl, rfl, fun r s hs k => ?_, fun k => ?_⟩
  · dsimp only at hs
    blk_ext [iblk, V, e1, e2]
  · blk_point [iblk, V, e2]

/-- A product of a weight row with a normalised row of a block is that of the weight column with the array's row. -/
theorem proj_sum (b0 : FVec Ideal S1x512x1024 .f32) (b1 : FVec Ideal S1x1024 .f32) (x : FVec Ideal S2x8192x1024 .f32)
    (g : FVec Ideal S1024 .f32) (r : Fin 512) (a : Fin 2) (s : Fin 8192) (u v : Fin 1024 → EReal)
    (h0 : ∀ k, b0 (ix3 0 r k) = x (ix3 a s k)) (h1 : ∀ k, b1 (ix2 0 k) = g (ix1 k)) (h : ∀ k, u k = v k) :
    (∑ k, u k * Gen.k0_pay3 (F := Ideal) b0 b1 (ix2 r k) : EReal) = ∑ k, val_main_v12 (F := Ideal) x g (ix3 a s k) * v k :=
  Finset.sum_congr rfl fun k _ => by
    rw [norm_row b0 b1 x g r a s h0 h1, h]
    exact mul_comm (G := EReal) _ _

set_option maxHeartbeats 1000000 in
/-- The queries. -/
theorem final7 (c : Dev nD) : (dats (F := Ideal) m 0 c).arrAt 7 cfg0.N = val_main_v20 (F := Ideal) (X m c) (G m c) (W m c) := by
  refine (dats m 0 c).arrAt_eq_of_covers 7 _ (by decide +kernel) fun t hf y => ?_
  blk_simp
  rw [after0_7]
  frame_out
  idx_vars y
  obtain ⟨e0, e1, e2, e3, e4, e5, e6, e7, e8, e9⟩ := idx t
  obtain ⟨a, q, ea, eq, hx, hg⟩ := reads m c t
  have hi : (((View.whole main_v13_1).slice (win0_7.rect t)).emb (ix3 y0 y1 y2)) = ix3 a y1 ⟨q.val * 512 + y2.val, by omega⟩ := by
    blk_ext [e7, ea, eq]
  rw [hi]
  pointwise [Gen.k0_pay5, val_main_v20, val_main_v15, val_main_v13]
  refine proj_sum _ _ _ _ _ _ _ _ _ (hx y2 _ rfl) hg fun k => ?_
  blk_point [iblk, V, e4]

set_option maxHeartbeats 1000000 in
/-- The keys. -/
theorem final8 (c : Dev nD) : (dats (F := Ideal) m 0 c).arrAt 8 cfg0.N = val_main_v21 (F := Ideal) (X m c) (G m c) (W m c) := by
  refine (dats m 0 c).arrAt_eq_of_covers 8 _ (by decide +kernel) fun t hf y => ?_
  blk_simp
  rw [after0_8]
  frame_out
  idx_vars y
  obtain ⟨e0, e1, e2, e3, e4, e5, e6, e7, e8, e9⟩ := idx t
  obtain ⟨a, q, ea, eq, hx, hg⟩ := reads m c t
  have hi : (((View.whole main_v13_2).slice (win0_8.rect t)).emb (ix3 y0 y1 y2)) = ix3 a y1 ⟨q.val * 512 + y2.val, by omega⟩ := by
    blk_ext [e8, ea, eq]
  rw [hi]
  pointwise [Gen.k0_pay1, Gen.k0_pay6, val_main_v21, val_main_v16, val_main_v13]
  refine proj_sum _ _ _ _ _ _ _ _ _ (hx y2 _ rfl) hg fun k => ?_
  blk_point [iblk, V, e5]

set_option maxHeartbeats 1000000 in
/-- The values. -/
theorem final9 (c : Dev nD) : (dats (F := Ideal) m 0 c).arrAt 9 cfg0.N = val_main_v22 (F := Ideal) (X m c) (G m c) (W m c) := by
  refine (dats m 0 c).arrAt_eq_of_covers 9 _ (by decide +kernel) fun t hf y => ?_
  blk_simp
  rw [after0_9]
  frame_out
  idx_vars y
  obtain ⟨e0, e1, e2, e3, e4, e5, e6, e7, e8, e9⟩ := idx t
  obtain ⟨a, q, ea, eq, hx, hg⟩ := reads m c t
  have hi : (((View.whole main_v13_3).slice (win0_9.rect t)).emb (ix3 y0 y1 y2)) = ix3 a y1 ⟨q.val * 512 + y2.val, by omega⟩ := by
    blk_ext [e9, ea, eq]
  rw [hi]
  pointwise [Gen.k0_pay2, val_main_v22, val_main_v17, val_main_v13]
  refine proj_sum _ _ _ _ _ _ _ _ _ (hx y2 _ rfl) hg fun k => ?_
  blk_point [iblk, V, e6]

set_option maxHeartbeats 1000000 in
/-- The token-major columns, the last 112 of which are zero. -/
theorem final6 (c : Dev nD) : (dats (F := Ideal) m 0 c).arrAt 6 cfg0.N = val_main_v19 (F := Ideal) (X m c) (G m c) (W m c) := by
  refine (dats m 0 c).arrAt_eq_of_covers 6 _ (by decide +kernel) fun t hf y => ?_
  blk_simp
  rw [after0_6]
  frame_out
  idx_vars y
  obtain ⟨e0, e1, e2, e3, e4, e5, e6, e7, e8, e9⟩ := idx t
  obtain ⟨a, q, ea, eq, hx, hg⟩ := reads m c t
  have hi : (((View.whole main_v13_0).slice (win0_6.rect t)).emb (ix3 y0 y1 y2)) = ix3 a ⟨q.val * 512 + y1.val, by omega⟩ y2 := by
    rw [e0] at ea eq e1
    blk_ext [ea, eq, e1]
  have hw : ∀ k, iblk m c 2 t (ix2 k y2) = if h : y2.val < 1552 then W m c (ix2 k ⟨y2.val, by omega⟩) else (0 : EReal) := by
    intro k
    have hj : ((View.whole main_v5).slice (win0_2.rect t)).emb (ix2 k y2) = ix2 k y2 := by blk_ext [e3]
    have hr : ∀ f : FVec Ideal S1024x1664 .bf16, View.read (Elt Ideal) ((cfg0.win 2).blk t).view f (ix2 k y2) = f (ix2 k y2) :=
      fun f => congrArg f hj
    unfold iblk V
    entry_read
    rw [hr]
    pointwise
  rw [hi]
  pointwise [Gen.k0_pay4, val_main_v19, val_main_v18, val_main_cst_2, val_main_v14, val_main_v13]
  by_cases hy : y2.val < 1552
  · rw [dif_pos hy]
    simp only [hw, dif_pos hy, fun k => norm_row _ _ _ _ y1 a ⟨q.val * 512 + y1.val, by omega⟩ (hx y1 _ rfl) hg k]
  · rw [dif_neg hy]
    simp only [hw, dif_neg hy]
    exact Finset.sum_eq_zero (M := EReal) fun k _ => mul_zero (M₀ := EReal) _

/-- Both programs run, and from equal arguments all four results are equal. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => val_main_v19 (F := Ideal) (X m c) (G m c) (W m c), fun c => val_main_v20 (F := Ideal) (X m c) (G m c) (W m c),
    fun c => val_main_v21 (F := Ideal) (X m c) (G m c) (W m c), fun c => val_main_v22 (F := Ideal) (X m c) (G m c) (W m c), ?_, ?_⟩
  · refine (θ_run (Cert.Kernel3Ideal.defs (F := Ideal)) _ _).mono (fun r h c => ?_) (Cert.Kernel3Ideal.Value.run_blocks (F := Ideal) m ρ)
    obtain ⟨h6, h7, h8, h9, h⟩ := h c
    exact ⟨h6.trans (final6 m c), h7.trans (final7 m c), h8.trans (final8 m c), h9.trans (final9 m c), h⟩
  · refine (θ_run (Cert.Reference3Ideal.defs (F := Ideal)) _ _).mono (fun r h c => ?_) (Cert.Reference3Ideal.Value.run (F := Ideal) m' ρ')
    obtain ⟨h6, h7, h8, h9, h⟩ := h c
    obtain ⟨a0, a1, a2⟩ := hag c
    rw [a0, a1, a2] at h6 h7 h8 h9
    exact ⟨h6.trans (val_main_v19_eq _ _ _), h7.trans (val_main_v20_eq _ _ _), h8.trans (val_main_v21_eq _ _ _),
      h9.trans (val_main_v22_eq _ _ _), h⟩

end Cert.Proof.Inproj

end
-- ==== Proof.RefRun.lean ====
/- The run of the recurrence's reference around its loop: which arrays it leaves alone, and so its frame. -/
module

public import proofs.«01_k».proof.Defs
public import proofs.«01_k».proof.Proof.Gen.ReferenceIdeal.Run
public import Idealize.ShloMosaic.Lib.Quiescent

@[expose] public section

set_option maxRecDepth 16384

noncomputable section

namespace Cert.Proof.RefRun

open Idealize.ShloMosaic Idealize.ShloMosaic.TcCoe Idealize.SL.Sem
open Idealize.ShloMosaic.StableHlo
open Cert.ReferenceIdeal Cert.ReferenceIdeal.Gen Cert.ReferenceIdeal.Value

variable (m : (ℓ : Loc nD τ sig) → Buf (Elt Ideal) ℓ)

/-- The arrays that the stretches before the loop write. -/
abbrev preW : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W ++ hostOps0_11_W ++ hostOps0_12_W

/-- The arrays that one trip of the loop writes. -/
abbrev tripW : List (Ref sig .tc) :=
  condOps_W ++ while0Ops0_W ++ while0Ops0_1_W ++ while0Ops0_2_W ++ while0Ops0_3_W ++ while0Ops0_4_W

/-- The arrays that stretch 1 of 7 after the loop writes. -/
abbrev postW13 : List (Ref sig .tc) := [
  main_v128, main_v129, main_v130, main_v131, main_v132, main_v133, main_v134, main_cst_17, main_v135,
   main_v136, main_cst_18, main_v137, main_v138, main_cst_19, main_v139, main_v140, main_v141, main_v142,
   main_v143, main_v144, main_v145, main_v146, main_v147]
theorem post13 : (hostOps0_13 (F := Ideal)).Forall fun op => op.writes ⊆ (postW13.map (Proc.devRef (τ := τ) .tc)).toFinset :=
  forall_writes_sub_of_map rfl

/-- The arrays that stretch 2 of 7 after the loop writes. -/
abbrev postW14 : List (Ref sig .tc) := [
  main_call9_v0, main_call9_v1, main_call9_cst, main_call9_v2, main_call9_v3, main_call9_cst_0, main_call9_v4,
   main_call9_v5, main_v148]
theorem post14 : (hostOps0_14 (F := Ideal)).Forall fun op => op.writes ⊆ (postW14.map (Proc.devRef (τ := τ) .tc)).toFinset :=
  forall_writes_sub_of_map rfl

/-- The arrays that stretch 3 of 7 after the loop writes. -/
abbrev postW15 : List (Ref sig .tc) := [
  main_v149, main_v150, main_v151, main_cst_20, main_v152, main_v153, main_cst_21, main_v154, main_v155,
   main_cst_22, main_v156, main_v157, main_v158, main_v159, main_v160, main_v161, main_v162, main_v163,
   main_v164]
theorem post15 : (hostOps0_15 (F := Ideal)).Forall fun op => op.writes ⊆ (postW15.map (Proc.devRef (τ := τ) .tc)).toFinset :=
  forall_writes_sub_of_map rfl

/-- The arrays that stretch 4 of 7 after the loop writes. -/
abbrev postW16 : List (Ref sig .tc) := [
  main_call10_v0, main_call10_v1, main_call10_cst, main_call10_v2, main_call10_v3, main_call10_cst_0,
   main_call10_v4, main_call10_v5, main_v165]
theorem post16 : (hostOps0_16 (F := Ideal)).Forall fun op => op.writes ⊆ (postW16.map (Proc.devRef (τ := τ) .tc)).toFinset :=
  forall_writes_sub_of_map rfl

/-- The arrays that stretch 5 of 7 after the loop writes. -/
abbrev postW17 : List (Ref sig .tc) := [
  main_v166, main_v167, main_v168, main_v169, main_c_23, main_v170, main_v171, main_v172, main_v173,
   main_v174, main_cst_24]
theorem post17 : (hostOps0_17 (F := Ideal)).Forall fun op => op.writes ⊆ (postW17.map (Proc.devRef (τ := τ) .tc)).toFinset :=
  forall_writes_sub_of_map rfl

/-- The arrays that stretch 6 of 7 after the loop writes. -/
abbrev postW18 : List (Ref sig .tc) := [
  main_call11_v0, main_call11_v1, main_call11_v2, main_call11_v3, main_v175]
theorem post18 : (hostOps0_18 (F := Ideal)).Forall fun op => op.writes ⊆ (postW18.map (Proc.devRef (τ := τ) .tc)).toFinset :=
  forall_writes_sub_of_map rfl

/-- The arrays that stretch 7 of 7 after the loop writes. -/
abbrev postW19 : List (Ref sig .tc) := [
  main_v176, main_v177, main_v178]
theorem post19 : (hostOps0_19 (F := Ideal)).Forall fun op => op.writes ⊆ (postW19.map (Proc.devRef (τ := τ) .tc)).toFinset :=
  forall_writes_sub_of_map rfl

/-- Stretches that do not write an array leave it as it was. -/
theorem keep {W : List (Ref sig .tc)} {r : Ref sig .tc} (ops : List (HloOp τ sig (Elt Ideal))) (V : Valuation τ sig (Elt Ideal))
    (hW : ops.Forall fun op => op.writes ⊆ (W.map (Proc.devRef (τ := τ) .tc)).toFinset) (hr : r ∉ W) :
    after ops V (Proc.devRef .tc r) = V (Proc.devRef .tc r) := after_of_writes_sub ops V hW hr

/-- An array that nothing before the loop writes enters the loop as it was at launch. -/
theorem entry_kept (c : Dev nD) {r : Ref sig .tc} (hr : r ∉ preW) :
    entryContents preI m c (Proc.devRef .tc r) = launchContents m c (Proc.devRef .tc r) := by
  simp only [preW, List.mem_append, not_or] at hr
  obtain ⟨⟨⟨⟨⟨⟨⟨⟨⟨⟨⟨⟨h0, h1⟩, h2⟩, h3⟩, h4⟩, h5⟩, h6⟩, h7⟩, h8⟩, h9⟩, h10⟩, h11⟩, h12⟩ := hr
  simp only [entryContents, afterL_cons, afterL_nil]
  rw [keep _ _ hostOps0_12_writes h12, keep _ _ hostOps0_11_writes h11, keep _ _ hostOps0_10_writes h10,
    keep _ _ hostOps0_9_writes h9, keep _ _ hostOps0_8_writes h8, keep _ _ hostOps0_7_writes h7, keep _ _ hostOps0_6_writes h6,
    keep _ _ hostOps0_5_writes h5, keep _ _ hostOps0_4_writes h4, keep _ _ hostOps0_3_writes h3, keep _ _ hostOps0_2_writes h2,
    keep _ _ hostOps0_1_writes h1, keep _ _ hostOps0_writes h0]

/-- An array that no trip writes is the same before every trip. -/
theorem trips_kept (c : Dev nD) {r : Ref sig .tc} (hr : r ∉ tripW) (k : ℕ) :
    atK m k c (Proc.devRef .tc r) = entryContents preI m c (Proc.devRef .tc r) := by
  simp only [tripW, List.mem_append, not_or] at hr
  obtain ⟨⟨⟨⟨⟨hc, h0⟩, h1⟩, h2⟩, h3⟩, h4⟩ := hr
  induction k with
  | zero => rfl
  | succ k ih =>
    rw [show atK m (k + 1) c = afterL bodyI (after condOps (atK m k c)) from rfl]
    simp only [afterL_cons, afterL_nil]
    rw [keep _ _ while0Ops0_4_writes h4, keep _ _ while0Ops0_3_writes h3, keep _ _ while0Ops0_2_writes h2,
      keep _ _ while0Ops0_1_writes h1, keep _ _ while0Ops0_writes h0, keep _ _ condOps_writes hc]
    exact ih

/-- The contents after the loop's last test. -/
abbrev exit (c : Dev nD) : Valuation τ sig (Elt Ideal) := after condOps (atK m 512 c)

/-- An array that the loop does not write leaves it as it entered. -/
theorem exit_kept (c : Dev nD) {r : Ref sig .tc} (hr : r ∉ tripW) :
    exit m c (Proc.devRef .tc r) = entryContents preI m c (Proc.devRef .tc r) := by
  have hc : r ∉ condOps_W := fun h => hr (by simp only [tripW, List.mem_append]; exact Or.inl (Or.inl (Or.inl (Or.inl (Or.inl h)))))
  exact (keep _ _ condOps_writes hc).trans (trips_kept m c hr 512)

/-- The arrays that the stretches after the loop write. -/
abbrev postW : List (Ref sig .tc) := postW13 ++ postW14 ++ postW15 ++ postW16 ++ postW17 ++ postW18 ++ postW19

/-- An array that nothing after the loop writes ends as it left the loop. -/
theorem final_kept (c : Dev nD) {r : Ref sig .tc} (hr : r ∉ postW) :
    finalContents condOps preI bodyI postI 512 m c (Proc.devRef .tc r) = exit m c (Proc.devRef .tc r) := by
  simp only [postW, List.mem_append, not_or] at hr
  obtain ⟨⟨⟨⟨⟨⟨h13, h14⟩, h15⟩, h16⟩, h17⟩, h18⟩, h19⟩ := hr
  simp only [finalContents, afterL_cons, afterL_nil]
  rw [keep _ _ post19 h19, keep _ _ post18 h18, keep _ _ post17 h17, keep _ _ post16 h16, keep _ _ post15 h15,
    keep _ _ post14 h14, keep _ _ post13 h13]

/-- An argument ends as it was at launch. -/
theorem arg_kept (c : Dev nD) {r : Ref sig .tc} (h : r ∉ preW ∧ r ∉ tripW ∧ r ∉ postW) :
    finalContents condOps preI bodyI postI 512 m c (Proc.devRef .tc r) = m ((c.tc : Thread nD τ).loc r) :=
  (final_kept m c h.2.2).trans ((exit_kept m c h.2.1).trans (entry_kept m c h.1))

/-- The reference leaves its arguments and its semaphores as they were. -/
theorem frame : Cert.quiescent_ReferenceIdeal (hReferenceIdeal := Cert.ReferenceIdeal.Gen.facts) := fun m ρ _ =>
  (θ_run defs _ _).mono
    (fun r h => ⟨fun c => ⟨(h c main_arg0 rfl).trans (arg_kept m c (by decide +kernel)),
      (h c main_arg1 rfl).trans (arg_kept m c (by decide +kernel)), (h c main_arg2 rfl).trans (arg_kept m c (by decide +kernel)),
      (h c main_arg3 rfl).trans (arg_kept m c (by decide +kernel)), (h c main_arg4 rfl).trans (arg_kept m c (by decide +kernel))⟩,
      sem_eq_zero_of_no_sems (by decide) r.2⟩)
    (run_fold m ρ)

end Cert.Proof.RefRun

end
-- ==== Proof.Mlp.lean ====
/- The output projection and the gated feed-forward network: the tiled kernel's result is the reference's result. -/
module

public import proofs.«01_k».proof.Defs
public import proofs.«01_k».proof.Proof.Gen.Kernel2Ideal.Value
public import proofs.«01_k».proof.Proof.Gen.Reference2Ideal.Read
public import proofs.«01_k».proof.Proof.Scalars
public import Idealize.ShloMosaic.Lib.Pipeline.ValueKit
public import Idealize.ShloMosaic.Lib.Claim

@[expose] public section

set_option maxRecDepth 16384

noncomputable section

namespace Cert.Proof.Mlp

open Idealize.ShloMosaic Idealize.ShloMosaic.TcCoe Idealize.SL.Sem
open Idealize.ShloMosaic.Pipeline (Dat)
open Cert.Reference2Ideal.Read
open Cert.Kernel2Ideal Cert.Kernel2Ideal.Gen

/-! ## One row of a block, and the same row of the whole arrays

The arrays are `x0` the residual stream, `x1` and `x2` the two halves of the mixed heads, `x3` the output projection,
`x4`, `x5`, `x9` the three gains, `x6`, `x7`, `x8` the gate, up and down projections. Row `r` of a block is row `R` of the
arrays. -/

variable {x0 : FVec Ideal S16384x1024 .f32} {x1 x2 : FVec Ideal S16384x512 .bf16} {x3 : FVec Ideal S1024x1024 .f32}
  {x4 x5 x9 : FVec Ideal S1024 .f32} {x6 x7 : FVec Ideal S1024x2816 .f32} {x8 : FVec Ideal S2816x1024 .f32}
  {b0 : FVec Ideal S512x1024 .f32} {b1 b2 : FVec Ideal S512x512 .bf16} {b3 b4 : FVec Ideal S512x1024 .bf16}
  {b5 b6 b10 : FVec Ideal S1x1024 .f32} {b7 b8 : FVec Ideal S1024x2816 .bf16} {b9 : FVec Ideal S2816x1024 .bf16}
  {r : Fin 512} {R : Fin 16384}

/-- The two half products add up to the product of the joined heads with the whole projection. -/
theorem out_proj (h1 : ∀ k, b1 (ix2 r k) = x1 (ix2 R k)) (h2 : ∀ k, b2 (ix2 r k) = x2 (ix2 R k))
    (h3 : ∀ (j : Fin 512) k, b3 (ix2 j k) = x3 (ix2 ⟨j.val, by omega⟩ k))
    (h4 : ∀ (j : Fin 512) k, b4 (ix2 j k) = x3 (ix2 ⟨512 + j.val, by omega⟩ k)) (k : Fin 1024) :
    (∑ j : Fin 512, b1 (ix2 r j) * b3 (ix2 j k) + ∑ j : Fin 512, b2 (ix2 r j) * b4 (ix2 j k) : EReal)
      = val_main_v3 (F := Ideal) x1 x2 x3 (ix2 R k) := by
  pointwise [val_main_v3, val_main_v2, val_main_v0, val_main_v1]
  simp only [h1, h2, h3, h4]

/-- The residual stream after the mixed heads. -/
theorem resid (h0 : ∀ k, b0 (ix2 r k) = x0 (ix2 R k)) (h1 : ∀ k, b1 (ix2 r k) = x1 (ix2 R k))
    (h2 : ∀ k, b2 (ix2 r k) = x2 (ix2 R k)) (h3 : ∀ (j : Fin 512) k, b3 (ix2 j k) = x3 (ix2 ⟨j.val, by omega⟩ k))
    (h4 : ∀ (j : Fin 512) k, b4 (ix2 j k) = x3 (ix2 ⟨512 + j.val, by omega⟩ k)) (h5 : ∀ k, b5 (ix2 0 k) = x4 (ix1 k))
    (k : Fin 1024) :
    Gen.k0_pay2 (F := Ideal) b1 b3 b2 b4 b0 b5 (ix2 r k) = val_main_v17 (F := Ideal) x0 x1 x2 x3 x4 (ix2 R k) := by
  pointwise [Gen.k0_pay2, val_main_v17, val_main_v16, val_main_v15, val_main_v14, val_main_v13, val_main_v12, val_main_v11,
    val_main_v10, val_main_v9, val_main_cst_1, val_main_v8, val_main_v7, val_main_cst_0, val_main_v6, val_main_v5,
    val_main_cst, val_main_v4]
  simp only [out_proj h1 h2 h3 h4, h0, h5]

/-- The normalised stream that the feed-forward network reads. -/
theorem normed (h : ∀ k, Gen.k0_pay2 (F := Ideal) b1 b3 b2 b4 b0 b5 (ix2 r k) = val_main_v17 (F := Ideal) x0 x1 x2 x3 x4 (ix2 R k))
    (h6 : ∀ k, b6 (ix2 0 k) = x5 (ix1 k)) (k : Fin 1024) :
    (Gen.k0_pay4 (F := Ideal) b1 b3 b2 b4 b0 b5 (ix2 r k) * Gen.k0_pay3 (F := Ideal) b6 (ix2 0 k) : EReal)
      = val_main_v30 (F := Ideal) x0 x1 x2 x3 x4 x5 (ix2 R k) := by
  pointwise [Gen.k0_pay4, Gen.k0_pay3, val_main_v30, val_main_v29, val_main_v28, val_main_v27, val_main_v26, val_main_v25, val_main_v24,
    val_main_v23, val_main_cst_4, val_main_v22, val_main_v21, val_main_cst_3, val_main_v20, val_main_v19, val_main_cst_2, val_main_v18]
  simp only [h, h6]

/-- The gated feed-forward network, its normalisation and the second residual sum, from the normalised stream. -/
theorem gated {p2 p4 : FVec Ideal S512x1024 .f32} {p3 : FVec Ideal S1x1024 .f32}
    (h : ∀ k, p2 (ix2 r k) = val_main_v17 (F := Ideal) x0 x1 x2 x3 x4 (ix2 R k))
    (hn : ∀ k, (p4 (ix2 r k) * p3 (ix2 0 k) : EReal) = val_main_v30 (F := Ideal) x0 x1 x2 x3 x4 x5 (ix2 R k))
    (h7 : ∀ j k, b7 (ix2 j k) = x6 (ix2 j k)) (h8 : ∀ j k, b8 (ix2 j k) = x7 (ix2 j k))
    (h9 : ∀ j k, b9 (ix2 j k) = x8 (ix2 j k)) (h10 : ∀ k, b10 (ix2 0 k) = x9 (ix1 k)) (k : Fin 1024) :
    Gen.k0_pay1 (F := Ideal) p2 p3 p4 b7 b8 b9 b10 (ix2 r k)
      = val_main_v49 (F := Ideal) x0 x1 x2 x3 x4 x5 x6 x7 x8 x9 (ix2 R k) := by
  pointwise [Gen.k0_pay1, val_main_v49, val_main_v48, val_main_v47, val_main_v46, val_main_v45, val_main_v44, val_main_v43,
    val_main_v42, val_main_v41, val_main_cst_7, val_main_v40, val_main_v39, val_main_cst_6, val_main_v38, val_main_v37, val_main_cst_5,
    val_main_v36, val_main_v35, val_main_v34, val_main_v33, val_main_v32, val_main_v31, val_main_call0_v0, val_main_call0_v1,
    val_main_call0_cst, val_main_call0_v2, val_main_call0_v3, val_main_call0_cst_0, val_main_call0_v4, val_main_call0_v5]
  simp only [h, hn, h7, h8, h9, h10]
  simp only [Scalars.gate]

/-! ## The blocks of one grid point -/

variable (m : (ℓ : Loc nD τ sig) → Buf (Elt Ideal) ℓ)

abbrev A0 (c : Dev nD) : FVec Ideal S16384x1024 .f32 := m ((c : Thread nD τ).loc main_arg0)
abbrev A1 (c : Dev nD) : FVec Ideal S16384x512 .bf16 := m ((c : Thread nD τ).loc main_arg1)
abbrev A2 (c : Dev nD) : FVec Ideal S16384x512 .bf16 := m ((c : Thread nD τ).loc main_arg2)
abbrev A3 (c : Dev nD) : FVec Ideal S1024x1024 .f32 := m ((c : Thread nD τ).loc main_arg3)
abbrev A4 (c : Dev nD) : FVec Ideal S1024 .f32 := m ((c : Thread nD τ).loc main_arg4)
abbrev A5 (c : Dev nD) : FVec Ideal S1024 .f32 := m ((c : Thread nD τ).loc main_arg5)
abbrev A6 (c : Dev nD) : FVec Ideal S1024x2816 .f32 := m ((c : Thread nD τ).loc main_arg6)
abbrev A7 (c : Dev nD) : FVec Ideal S1024x2816 .f32 := m ((c : Thread nD τ).loc main_arg7)
abbrev A8 (c : Dev nD) : FVec Ideal S2816x1024 .f32 := m ((c : Thread nD τ).loc main_arg8)
abbrev A9 (c : Dev nD) : FVec Ideal S1024 .f32 := m ((c : Thread nD τ).loc main_arg9)

/-- What the result holds on device `c`. -/
abbrev out (c : Dev nD) : FVec Ideal S16384x1024 .f32 :=
  val_main_v49 (F := Ideal) (A0 m c) (A1 m c) (A2 m c) (A3 m c) (A4 m c) (A5 m c) (A6 m c) (A7 m c) (A8 m c) (A9 m c)

/-- Which blocks the windows of one grid point are. -/
theorem idx : ∀ t : Fin cfg0.N, win0_0.index t = ![t.val, 0] ∧ win0_1.index t = ![t.val, 0] ∧ win0_2.index t = ![t.val, 0]
   ∧ win0_3.index t = ![0, 0] ∧ win0_4.index t = ![0, 0] ∧ win0_5.index t = ![0, 0] ∧ win0_6.index t = ![0, 0]
   ∧ win0_7.index t = ![0, 0] ∧ win0_8.index t = ![0, 0] ∧ win0_9.index t = ![0, 0] ∧ win0_10.index t = ![0, 0]
   ∧ win0_11.index t = ![t.val, 0] := by
  decide +kernel

set_option maxHeartbeats 1000000 in
/-- The result array after the run is the reference's result. -/
theorem final (c : Dev nD) : (dats (F := Ideal) m 0 c).arrAt 11 cfg0.N = out m c := by
  refine (dats m 0 c).arrAt_eq_of_covers 11 _ (by decide +kernel) fun t hf y => ?_
  blk_simp
  rw [after0_11]
  frame_out
  idx_vars y
  obtain ⟨e0, e1, e2, e3, e4, e5, e6, e7, e8, e9, e10, e11⟩ := idx t
  have ht : t.val < 32 := t.isLt
  have hi : (((View.whole main_v9).slice (win0_11.rect t)).emb (ix2 y0 y1)) = ix2 ⟨t.val * 512 + y0.val, by omega⟩ y1 := by
    blk_ext [e11]
  rw [hi]
  have h2 := resid (x0 := A0 m c) (x1 := A1 m c) (x2 := A2 m c) (x3 := A3 m c) (x4 := A4 m c) (r := y0)
    (R := ⟨t.val * 512 + y0.val, by omega⟩) (b0 := iblk m c 0 t) (b1 := iblk m c 1 t) (b2 := iblk m c 2 t) (b3 := iblk m c 3 t)
    (b4 := iblk m c 4 t) (b5 := iblk m c 5 t)
    (fun k => by blk_point [iblk, V, e0]) (fun k => by blk_point [iblk, V, e1]) (fun k => by blk_point [iblk, V, e2])
    (fun j k => by blk_point [iblk, V, e3]) (fun j k => by blk_point [iblk, V, e4]) (fun k => by blk_point [iblk, V, e5])
  refine gated h2 (normed (x5 := A5 m c) h2 (fun k => ?_)) (fun j k => ?_) (fun j k => ?_) (fun j k => ?_) (fun k => ?_) y1
  · blk_point [iblk, V, e6]
  · blk_point [iblk, V, e7]
  · blk_point [iblk, V, e8]
  · blk_point [iblk, V, e9]
  · blk_point [iblk, V, e10]

/-- Both programs run, and from equal arguments the results are equal. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨out m, ?_, ?_⟩
  · refine (θ_run (Cert.Kernel2Ideal.defs (F := Ideal)) _ _).mono (fun r h c => ?_) (Cert.Kernel2Ideal.Value.run_blocks (F := Ideal) m ρ)
    obtain ⟨h, hk⟩ := h c
    exact ⟨h.trans (final m c), hk⟩
  · refine (θ_run (Cert.Reference2Ideal.defs (F := Ideal)) _ _).mono (fun r h c => ?_) (Cert.Reference2Ideal.Value.run (F := Ideal) m' ρ')
    obtain ⟨h, hk⟩ := h c
    refine ⟨h.trans ((val_main_v49_eq m' c).trans ?_), hk⟩
    obtain ⟨a0, a1, a2, a3, a4, a5, a6, a7, a8, a9⟩ := hag c
    rw [a0, a1, a2, a3, a4, a5, a6, a7, a8, a9]

end Cert.Proof.Mlp

end
-- ==== Proof.InprojSample.lean ====
/- The input projection of the 256 tokens of the sample, in one block: the kernel's four results are the reference's four results. -/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Proof.InprojSample

open Idealize.ShloMosaic Idealize.ShloMosaic.TcCoe Idealize.SL.Sem
open Idealize.ShloMosaic.Pipeline (Dat)
open Cert.Reference5Ideal.Read (val_main_v22 val_main_v21 val_main_v20 val_main_v19 val_main_v18 val_main_cst_2 val_main_v17
  val_main_v16 val_main_v15 val_main_v14 val_main_v13 val_main_v12 val_main_v11 val_main_v10 val_main_v9
  val_main_v8 val_main_v7 val_main_v6 val_main_v5 val_main_cst_1 val_main_v4 val_main_v3 val_main_cst_0 val_main_v2
  val_main_v1 val_main_cst val_main_v0 val_main_v19_eq val_main_v20_eq val_main_v21_eq val_main_v22_eq)
open Cert.Kernel5Ideal Cert.Kernel5Ideal.Gen

variable (m : (ℓ : Loc nD τ sig) → Buf (Elt Ideal) ℓ)

abbrev X (c : Dev nD) : FVec Ideal S1x256x1024 .f32 := m ((c : Thread nD τ).loc main_arg0)
abbrev G (c : Dev nD) : FVec Ideal S1024 .f32 := m ((c : Thread nD τ).loc main_arg1)
abbrev W (c : Dev nD) : FVec Ideal S1024x3088 .f32 := m ((c : Thread nD τ).loc main_arg2)

/-- Every window's one block is its whole array. -/
theorem idx : ∀ t : Fin cfg0.N, win0_0.index t = ![0, 0, 0] ∧ win0_1.index t = ![0, 0]
   ∧ win0_2.index t = ![0, 0] ∧ win0_3.index t = ![0, 0] ∧ win0_4.index t = ![0, 0] ∧ win0_5.index t = ![0, 0]
   ∧ win0_6.index t = ![0, 0, 0] ∧ win0_7.index t = ![0, 0, 0] ∧ win0_8.index t = ![0, 0, 0] ∧ win0_9.index t = ![0, 0, 0] := by
  decide +kernel

/-- One normalised row of the input, in the block of a grid point, is the reference's normalised row of the array. -/
theorem norm_row (b0 : FVec Ideal S1x256x1024 .f32) (b1 : FVec Ideal S1x1024 .f32) (x : FVec Ideal S1x256x1024 .f32)
    (g : FVec Ideal S1024 .f32) (r : Fin 256)
    (h0 : ∀ k, b0 (ix3 0 r k) = x (ix3 0 r k)) (h1 : ∀ k, b1 (ix2 0 k) = g (ix1 k)) (k : Fin 1024) :
    Gen.k0_pay3 (F := Ideal) b0 b1 (ix2 r k) = val_main_v12 (F := Ideal) x g (ix3 0 r k) := by
  pointwise [Gen.k0_pay3, val_main_v12, val_main_v11, val_main_v10,
    val_main_v9, val_main_v8, val_main_v7, val_main_v6, val_main_v5, val_main_cst_1, val_main_v4, val_main_v3,
    val_main_cst_0, val_main_v2, val_main_v1, val_main_cst, val_main_v0]
  simp only [h0, h1]

/-- The rows and the gain of the blocks. -/
theorem reads (c : Dev nD) (t : Fin cfg0.N) : (∀ (r : Fin 256) k, iblk m c 0 t (ix3 0 r k) = X m c (ix3 0 r k))
    ∧ ∀ k, iblk m c 1 t (ix2 0 k) = G m c (ix1 k) := by
  obtain ⟨e0, e1, e2, e3, e4, e5, e6, e7, e8, e9⟩ := idx t
  refine ⟨fun r k => ?_, fun k => ?_⟩
  · blk_ext [iblk, V, e0]
  · blk_point [iblk, V, e1]

/-- A product of a weight row with a normalised row of a block is that of the weight column with the array's row. -/
theorem proj_sum (b0 : FVec Ideal S1x256x1024 .f32) (b1 : FVec Ideal S1x1024 .f32) (x : FVec Ideal S1x256x1024 .f32)
    (g : FVec Ideal S1024 .f32) (r : Fin 256) (u v : Fin 1024 → EReal)
    (h0 : ∀ k, b0 (ix3 0 r k) = x (ix3 0 r k)) (h1 : ∀ k, b1 (ix2 0 k) = g (ix1 k)) (h : ∀ k, u k = v k) :
    (∑ k, u k * Gen.k0_pay3 (F := Ideal) b0 b1 (ix2 r k) : EReal) = ∑ k, val_main_v12 (F := Ideal) x g (ix3 0 r k) * v k :=
  Finset.sum_congr rfl fun k _ => by
    rw [norm_row b0 b1 x g r h0 h1, h]
    exact mul_comm (G := EReal) _ _

set_option maxHeartbeats 1000000 in
/-- The queries. -/
theorem final7 (c : Dev nD) : (dats (F := Ideal) m 0 c).arrAt 7 cfg0.N = val_main_v20 (F := Ideal) (X m c) (G m c) (W m c) := by
  refine (dats m 0 c).arrAt_eq_of_covers 7 _ (by decide +kernel) fun t hf y => ?_
  blk_simp
  rw [after0_7]
  frame_out
  idx_vars y
  obtain ⟨e0, e1, e2, e3, e4, e5, e6, e7, e8, e9⟩ := idx t
  obtain ⟨hx, hg⟩ := reads m c t
  have hi : (((View.whole main_v13_1).slice (win0_7.rect t)).emb (ix3 y0 y1 y2)) = ix3 0 y1 y2 := by
    blk_ext [e7]
  rw [hi]
  pointwise [Gen.k0_pay5, val_main_v20, val_main_v15, val_main_v13]
  refine proj_sum _ _ _ _ _ _ _ (hx y2) hg fun k => ?_
  blk_point [iblk, V, e3]

set_option maxHeartbeats 1000000 in
/-- The keys. -/
theorem final8 (c : Dev nD) : (dats (F := Ideal) m 0 c).arrAt 8 cfg0.N = val_main_v21 (F := Ideal) (X m c) (G m c) (W m c) := by
  refine (dats m 0 c).arrAt_eq_of_covers 8 _ (by decide +kernel) fun t hf y => ?_
  blk_simp
  rw [after0_8]
  frame_out
  idx_vars y
  obtain ⟨e0, e1, e2, e3, e4, e5, e6, e7, e8, e9⟩ := idx t
  obtain ⟨hx, hg⟩ := reads m c t
  have hi : (((View.whole main_v13_2).slice (win0_8.rect t)).emb (ix3 y0 y1 y2)) = ix3 0 y1 y2 := by
    blk_ext [e8]
  rw [hi]
  pointwise [Gen.k0_pay1, Gen.k0_pay6, val_main_v21, val_main_v16, val_main_v13]
  refine proj_sum _ _ _ _ _ _ _ (hx y2) hg fun k => ?_
  blk_point [iblk, V, e4]

set_option maxHeartbeats 1000000 in
/-- The values. -/
theorem final9 (c : Dev nD) : (dats (F := Ideal) m 0 c).arrAt 9 cfg0.N = val_main_v22 (F := Ideal) (X m c) (G m c) (W m c) := by
  refine (dats m 0 c).arrAt_eq_of_covers 9 _ (by decide +kernel) fun t hf y => ?_
  blk_simp
  rw [after0_9]
  frame_out
  idx_vars y
  obtain ⟨e0, e1, e2, e3, e4, e5, e6, e7, e8, e9⟩ := idx t
  obtain ⟨hx, hg⟩ := reads m c t
  have hi : (((View.whole main_v13_3).slice (win0_9.rect t)).emb (ix3 y0 y1 y2)) = ix3 0 y1 y2 := by
    blk_ext [e9]
  rw [hi]
  pointwise [Gen.k0_pay2, val_main_v22, val_main_v17, val_main_v13]
  refine proj_sum _ _ _ _ _ _ _ (hx y2) hg fun k => ?_
  blk_point [iblk, V, e5]

set_option maxHeartbeats 1000000 in
/-- The token-major columns, the last 112 of which are zero. -/
theorem final6 (c : Dev nD) : (dats (F := Ideal) m 0 c).arrAt 6 cfg0.N = val_main_v19 (F := Ideal) (X m c) (G m c) (W m c) := by
  refine (dats m 0 c).arrAt_eq_of_covers 6 _ (by decide +kernel) fun t hf y => ?_
  blk_simp
  rw [after0_6]
  frame_out
  idx_vars y
  obtain ⟨e0, e1, e2, e3, e4, e5, e6, e7, e8, e9⟩ := idx t
  obtain ⟨hx, hg⟩ := reads m c t
  have hi : (((View.whole main_v13_0).slice (win0_6.rect t)).emb (ix3 y0 y1 y2)) = ix3 0 y1 y2 := by
    blk_ext [e6]
  have hw : ∀ k, iblk m c 2 t (ix2 k y2) = if h : y2.val < 1552 then W m c (ix2 k ⟨y2.val, by omega⟩) else (0 : EReal) := by
    intro k
    have hj : ((View.whole main_v5).slice (win0_2.rect t)).emb (ix2 k y2) = ix2 k y2 := by blk_ext [e2]
    have hr : ∀ f : FVec Ideal S1024x1664 .bf16, View.read (Elt Ideal) ((cfg0.win 2).blk t).view f (ix2 k y2) = f (ix2 k y2) :=
      fun f => congrArg f hj
    unfold iblk V
    entry_read
    rw [hr]
    pointwise
  rw [hi]
  pointwise [Gen.k0_pay4, val_main_v19, val_main_v18, val_main_cst_2, val_main_v14, val_main_v13]
  by_cases hy : y2.val < 1552
  · rw [dif_pos hy]
    simp only [hw, dif_pos hy, fun k => norm_row _ _ _ _ y1 (hx y1) hg k]
  · rw [dif_neg hy]
    simp only [hw, dif_neg hy]
    exact Finset.sum_eq_zero (M := EReal) fun k _ => mul_zero (M₀ := EReal) _

/-- Both programs run, and from equal arguments all four results are equal. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => val_main_v19 (F := Ideal) (X m c) (G m c) (W m c), fun c => val_main_v20 (F := Ideal) (X m c) (G m c) (W m c),
    fun c => val_main_v21 (F := Ideal) (X m c) (G m c) (W m c), fun c => val_main_v22 (F := Ideal) (X m c) (G m c) (W m c), ?_, ?_⟩
  · refine (θ_run (Cert.Kernel5Ideal.defs (F := Ideal)) _ _).mono (fun r h c => ?_) (Cert.Kernel5Ideal.Value.run_blocks (F := Ideal) m ρ)
    obtain ⟨h6, h7, h8, h9, h⟩ := h c
    exact ⟨h6.trans (final6 m c), h7.trans (final7 m c), h8.trans (final8 m c), h9.trans (final9 m c), h⟩
  · refine (θ_run (Cert.Reference5Ideal.defs (F := Ideal)) _ _).mono (fun r h c => ?_) (Cert.Reference5Ideal.Value.run (F := Ideal) m' ρ')
    obtain ⟨h6, h7, h8, h9, h⟩ := h c
    obtain ⟨a0, a1, a2⟩ := hag c
    rw [a0, a1, a2] at h6 h7 h8 h9
    exact ⟨h6.trans (val_main_v19_eq _ _ _), h7.trans (val_main_v20_eq _ _ _), h8.trans (val_main_v21_eq _ _ _),
      h9.trans (val_main_v22_eq _ _ _), h⟩

end Cert.Proof.InprojSample

end
-- ==== Proof.MlpSample.lean ====
/- The output projection and the gated feed-forward network on the 256 rows of the sample, in one block: the kernel's result
is the reference's result. -/
module

public import proofs.«01_k».proof.Defs
public import proofs.«01_k».proof.Proof.Gen.Kernel4Ideal.Value
public import proofs.«01_k».proof.Proof.Gen.Reference4Ideal.Read
public import proofs.«01_k».proof.Proof.Scalars
public import Idealize.ShloMosaic.Lib.Pipeline.ValueKit
public import Idealize.ShloMosaic.Lib.Claim

@[expose] public section

set_option maxRecDepth 16384

noncomputable section

namespace Cert.Proof.MlpSample

open Idealize.ShloMosaic Idealize.ShloMosaic.TcCoe Idealize.SL.Sem
open Idealize.ShloMosaic.Pipeline (Dat)
open Cert.Reference4Ideal.Read
open Cert.Kernel4Ideal Cert.Kernel4Ideal.Gen

/-! ## One row of the block, and the same row of the arrays

The arrays are `x0` the residual stream, `x1` and `x2` the two halves of the mixed heads, `x3` the output projection,
`x4`, `x5`, `x9` the three gains, `x6`, `x7`, `x8` the gate, up and down projections. Row `r` of the block is row `r` of the
arrays. -/

variable {x0 : FVec Ideal S256x1024 .f32} {x1 x2 : FVec Ideal S256x512 .bf16} {x3 : FVec Ideal S1024x1024 .f32}
  {x4 x5 x9 : FVec Ideal S1024 .f32} {x6 x7 : FVec Ideal S1024x2816 .f32} {x8 : FVec Ideal S2816x1024 .f32}
  {b0 : FVec Ideal S256x1024 .f32} {b1 b2 : FVec Ideal S256x512 .bf16} {b3 b4 : FVec Ideal S512x1024 .bf16}
  {b5 b6 b10 : FVec Ideal S1x1024 .f32} {b7 b8 : FVec Ideal S1024x2816 .bf16} {b9 : FVec Ideal S2816x1024 .bf16}
  {r : Fin 256}

/-- The two half products add up to the product of the joined heads with the whole projection. -/
theorem out_proj (h1 : ∀ k, b1 (ix2 r k) = x1 (ix2 r k)) (h2 : ∀ k, b2 (ix2 r k) = x2 (ix2 r k))
    (h3 : ∀ (j : Fin 512) k, b3 (ix2 j k) = x3 (ix2 ⟨j.val, by omega⟩ k))
    (h4 : ∀ (j : Fin 512) k, b4 (ix2 j k) = x3 (ix2 ⟨512 + j.val, by omega⟩ k)) (k : Fin 1024) :
    (∑ j : Fin 512, b1 (ix2 r j) * b3 (ix2 j k) + ∑ j : Fin 512, b2 (ix2 r j) * b4 (ix2 j k) : EReal)
      = val_main_v3 (F := Ideal) x1 x2 x3 (ix2 r k) := by
  pointwise [val_main_v3, val_main_v2, val_main_v0, val_main_v1]
  simp only [h1, h2, h3, h4]

/-- The residual stream after the mixed heads. -/
theorem resid (h0 : ∀ k, b0 (ix2 r k) = x0 (ix2 r k)) (h1 : ∀ k, b1 (ix2 r k) = x1 (ix2 r k))
    (h2 : ∀ k, b2 (ix2 r k) = x2 (ix2 r k)) (h3 : ∀ (j : Fin 512) k, b3 (ix2 j k) = x3 (ix2 ⟨j.val, by omega⟩ k))
    (h4 : ∀ (j : Fin 512) k, b4 (ix2 j k) = x3 (ix2 ⟨512 + j.val, by omega⟩ k)) (h5 : ∀ k, b5 (ix2 0 k) = x4 (ix1 k))
    (k : Fin 1024) :
    Gen.k0_pay2 (F := Ideal) b1 b3 b2 b4 b0 b5 (ix2 r k) = val_main_v17 (F := Ideal) x0 x1 x2 x3 x4 (ix2 r k) := by
  pointwise [Gen.k0_pay2, val_main_v17, val_main_v16, val_main_v15, val_main_v14, val_main_v13, val_main_v12, val_main_v11,
    val_main_v10, val_main_v9, val_main_cst_1, val_main_v8, val_main_v7, val_main_cst_0, val_main_v6, val_main_v5,
    val_main_cst, val_main_v4]
  simp only [out_proj h1 h2 h3 h4, h0, h5]

/-- The normalised stream that the feed-forward network reads. -/
theorem normed (h : ∀ k, Gen.k0_pay2 (F := Ideal) b1 b3 b2 b4 b0 b5 (ix2 r k) = val_main_v17 (F := Ideal) x0 x1 x2 x3 x4 (ix2 r k))
    (h6 : ∀ k, b6 (ix2 0 k) = x5 (ix1 k)) (k : Fin 1024) :
    (Gen.k0_pay4 (F := Ideal) b1 b3 b2 b4 b0 b5 (ix2 r k) * Gen.k0_pay3 (F := Ideal) b6 (ix2 0 k) : EReal)
      = val_main_v30 (F := Ideal) x0 x1 x2 x3 x4 x5 (ix2 r k) := by
  pointwise [Gen.k0_pay4, Gen.k0_pay3, val_main_v30, val_main_v29, val_main_v28, val_main_v27, val_main_v26, val_main_v25, val_main_v24,
    val_main_v23, val_main_cst_4, val_main_v22, val_main_v21, val_main_cst_3, val_main_v20, val_main_v19, val_main_cst_2, val_main_v18]
  simp only [h, h6]

/-- The gated feed-forward network, its normalisation and the second residual sum, from the normalised stream. -/
theorem gated {p2 p4 : FVec Ideal S256x1024 .f32} {p3 : FVec Ideal S1x1024 .f32}
    (h : ∀ k, p2 (ix2 r k) = val_main_v17 (F := Ideal) x0 x1 x2 x3 x4 (ix2 r k))
    (hn : ∀ k, (p4 (ix2 r k) * p3 (ix2 0 k) : EReal) = val_main_v30 (F := Ideal) x0 x1 x2 x3 x4 x5 (ix2 r k))
    (h7 : ∀ j k, b7 (ix2 j k) = x6 (ix2 j k)) (h8 : ∀ j k, b8 (ix2 j k) = x7 (ix2 j k))
    (h9 : ∀ j k, b9 (ix2 j k) = x8 (ix2 j k)) (h10 : ∀ k, b10 (ix2 0 k) = x9 (ix1 k)) (k : Fin 1024) :
    Gen.k0_pay1 (F := Ideal) p2 p3 p4 b7 b8 b9 b10 (ix2 r k)
      = val_main_v49 (F := Ideal) x0 x1 x2 x3 x4 x5 x6 x7 x8 x9 (ix2 r k) := by
  pointwise [Gen.k0_pay1, val_main_v49, val_main_v48, val_main_v47, val_main_v46, val_main_v45, val_main_v44, val_main_v43,
    val_main_v42, val_main_v41, val_main_cst_7, val_main_v40, val_main_v39, val_main_cst_6, val_main_v38, val_main_v37, val_main_cst_5,
    val_main_v36, val_main_v35, val_main_v34, val_main_v33, val_main_v32, val_main_v31, val_main_call0_v0, val_main_call0_v1,
    val_main_call0_cst, val_main_call0_v2, val_main_call0_v3, val_main_call0_cst_0, val_main_call0_v4, val_main_call0_v5]
  simp only [h, hn, h7, h8, h9, h10]
  simp only [Scalars.gate]

/-! ## The blocks of one grid point -/

variable (m : (ℓ : Loc nD τ sig) → Buf (Elt Ideal) ℓ)

abbrev A0 (c : Dev nD) : FVec Ideal S256x1024 .f32 := m ((c : Thread nD τ).loc main_arg0)
abbrev A1 (c : Dev nD) : FVec Ideal S256x512 .bf16 := m ((c : Thread nD τ).loc main_arg1)
abbrev A2 (c : Dev nD) : FVec Ideal S256x512 .bf16 := m ((c : Thread nD τ).loc main_arg2)
abbrev A3 (c : Dev nD) : FVec Ideal S1024x1024 .f32 := m ((c : Thread nD τ).loc main_arg3)
abbrev A4 (c : Dev nD) : FVec Ideal S1024 .f32 := m ((c : Thread nD τ).loc main_arg4)
abbrev A5 (c : Dev nD) : FVec Ideal S1024 .f32 := m ((c : Thread nD τ).loc main_arg5)
abbrev A6 (c : Dev nD) : FVec Ideal S1024x2816 .f32 := m ((c : Thread nD τ).loc main_arg6)
abbrev A7 (c : Dev nD) : FVec Ideal S1024x2816 .f32 := m ((c : Thread nD τ).loc main_arg7)
abbrev A8 (c : Dev nD) : FVec Ideal S2816x1024 .f32 := m ((c : Thread nD τ).loc main_arg8)
abbrev A9 (c : Dev nD) : FVec Ideal S1024 .f32 := m ((c : Thread nD τ).loc main_arg9)

/-- What the result holds on device `c`. -/
abbrev out (c : Dev nD) : FVec Ideal S256x1024 .f32 :=
  val_main_v49 (F := Ideal) (A0 m c) (A1 m c) (A2 m c) (A3 m c) (A4 m c) (A5 m c) (A6 m c) (A7 m c) (A8 m c) (A9 m c)

/-- Which blocks the windows of one grid point are. -/
theorem idx : ∀ t : Fin cfg0.N, win0_0.index t = ![0, 0] ∧ win0_1.index t = ![0, 0] ∧ win0_2.index t = ![0, 0]
   ∧ win0_3.index t = ![0, 0] ∧ win0_4.index t = ![0, 0] ∧ win0_5.index t = ![0, 0] ∧ win0_6.index t = ![0, 0]
   ∧ win0_7.index t = ![0, 0] ∧ win0_8.index t = ![0, 0] ∧ win0_9.index t = ![0, 0] ∧ win0_10.index t = ![0, 0]
   ∧ win0_11.index t = ![0, 0] := by
  decide +kernel

set_option maxHeartbeats 1000000 in
/-- The result array after the run is the reference's result. -/
theorem final (c : Dev nD) : (dats (F := Ideal) m 0 c).arrAt 11 cfg0.N = out m c := by
  refine (dats m 0 c).arrAt_eq_of_covers 11 _ (by decide +kernel) fun t hf y => ?_
  blk_simp
  rw [after0_11]
  frame_out
  idx_vars y
  obtain ⟨e0, e1, e2, e3, e4, e5, e6, e7, e8, e9, e10, e11⟩ := idx t
  have hi : (((View.whole main_v9).slice (win0_11.rect t)).emb (ix2 y0 y1)) = ix2 y0 y1 := by
    blk_ext [e11]
  rw [hi]
  have h2 := resid (x0 := A0 m c) (x1 := A1 m c) (x2 := A2 m c) (x3 := A3 m c) (x4 := A4 m c) (r := y0)
    (b0 := iblk m c 0 t) (b1 := iblk m c 1 t) (b2 := iblk m c 2 t) (b3 := iblk m c 3 t)
    (b4 := iblk m c 4 t) (b5 := iblk m c 5 t)
    (fun k => by blk_point [iblk, V, e0]) (fun k => by blk_point [iblk, V, e1]) (fun k => by blk_point [iblk, V, e2])
    (fun j k => by blk_point [iblk, V, e3]) (fun j k => by blk_point [iblk, V, e4]) (fun k => by blk_point [iblk, V, e5])
  refine gated h2 (normed (x5 := A5 m c) h2 (fun k => ?_)) (fun j k => ?_) (fun j k => ?_) (fun j k => ?_) (fun k => ?_) y1
  · blk_point [iblk, V, e6]
  · blk_point [iblk, V, e7]
  · blk_point [iblk, V, e8]
  · blk_point [iblk, V, e9]
  · blk_point [iblk, V, e10]

/-- Both programs run, and from equal arguments the results are equal. -/
theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨out m, ?_, ?_⟩
  · refine (θ_run (Cert.Kernel4Ideal.defs (F := Ideal)) _ _).mono (fun r h c => ?_) (Cert.Kernel4Ideal.Value.run_blocks (F := Ideal) m ρ)
    obtain ⟨h, hk⟩ := h c
    exact ⟨h.trans (final m c), hk⟩
  · refine (θ_run (Cert.Reference4Ideal.defs (F := Ideal)) _ _).mono (fun r h c => ?_) (Cert.Reference4Ideal.Value.run (F := Ideal) m' ρ')
    obtain ⟨h, hk⟩ := h c
    refine ⟨h.trans ((val_main_v49_eq m' c).trans ?_), hk⟩
    obtain ⟨a0, a1, a2, a3, a4, a5, a6, a7, a8, a9⟩ := hag c
    rw [a0, a1, a2, a3, a4, a5, a6, a7, a8, a9]

end Cert.Proof.MlpSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Read
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel4Ideal.Value
public import proofs.«01_k».proof.Proof.Gen.Kernel5Ideal.Value
public import proofs.«01_k».proof.Proof.Gen.Reference4Ideal.Read
public import proofs.«01_k».proof.Proof.Gen.Reference5Ideal.Read
public import proofs.«01_k».proof.Proof.LinSample
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Read
public import proofs.«01_k».proof.Proof.Inproj
public import proofs.«01_k».proof.Proof.RefRun
public import proofs.«01_k».proof.Proof.Mlp
public import proofs.«01_k».proof.Proof.InprojSample
public import proofs.«01_k».proof.Proof.MlpSample
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the feed-forward part leaves its arguments and its semaphores as they were. -/
theorem frame_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The reference of the input projection leaves its arguments and its semaphores as they were. -/
theorem frame_reference3 : Cert.quiescent_Reference3Ideal (hReference3Ideal := Cert.Reference3Ideal.Gen.facts) := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

/-- The reference of the feed-forward part on the sample's rows leaves its arguments and its semaphores as they were. -/
theorem frame_reference4 : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The reference of the sample's input projection leaves its arguments and its semaphores as they were. -/
theorem frame_reference5 : Cert.quiescent_Reference5Ideal (hReference5Ideal := Cert.Reference5Ideal.Gen.facts) := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

/-- The reference of the sample's recurrences leaves its arguments and its semaphores as they were. -/
theorem frame_reference6 : Cert.quiescent_Reference6Ideal (hReference6Ideal := Cert.Reference6Ideal.Gen.facts) := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts, LinFinite.facts,
   fun m ρ _ => Cert.Kernel.Gen.frame m ρ, fun m ρ _ => Cert.KernelIdeal.Gen.frame m ρ, RefRun.frame,
   fun m ρ _ => Cert.Kernel2.Gen.frame m ρ, fun m ρ _ => Cert.Kernel2Ideal.Gen.frame m ρ, frame_reference2,
   fun m ρ _ => Cert.Kernel3.Gen.frame m ρ, fun m ρ _ => Cert.Kernel3Ideal.Gen.frame m ρ, frame_reference3,
   fun m ρ _ => Cert.Kernel4.Gen.frame m ρ, fun m ρ _ => Cert.Kernel4Ideal.Gen.frame m ρ, frame_reference4,
   fun m ρ _ => Cert.Kernel5.Gen.frame m ρ, fun m ρ _ => Cert.Kernel5Ideal.Gen.frame m ρ, frame_reference5,
   fun m ρ _ => Cert.Kernel6.Gen.frame m ρ, fun m ρ _ => Cert.Kernel6Ideal.Gen.frame m ρ, fun m ρ _ => Cert.Kernel6Ideal.Gen.frame m ρ,
   frame_reference6, fun m ρ _ => frame_reference6 m ρ trivial,
   trivial, trivial, Mlp.algebraic, trivial, Inproj.algebraic, trivial, MlpSample.algebraic, trivial, InprojSample.algebraic,
   trivial, LinSample.algebraic⟩

end Cert.Proof

end
